-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 4096]⟩ ⟨2, ![8192, 8192]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![4096, 4096]⟩ ⟨2, ![8192, 8192]⟩ (Layout.meshBlock [2, 2] ![[0], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v22) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x4096 : Shape := ⟨2, ![4096, 4096]⟩
abbrev S2x512x4096 : Shape := ⟨3, ![2, 512, 4096]⟩
abbrev S2x1x4096 : Shape := ⟨3, ![2, 1, 4096]⟩
abbrev S1x4096 : Shape := ⟨2, ![1, 4096]⟩
abbrev S4096x128 : Shape := ⟨2, ![4096, 128]⟩
abbrev S4096x1 : Shape := ⟨2, ![4096, 1]⟩
abbrev S2 : Shape := ⟨1, ![2]⟩
abbrev S_ : Shape := ⟨0, ![]⟩
abbrev S1 : Shape := ⟨1, ![1]⟩
abbrev S1x512x4096 : Shape := ⟨3, ![1, 512, 4096]⟩
abbrev S512x4096 : Shape := ⟨2, ![512, 4096]⟩
abbrev S1x1x4096 : Shape := ⟨3, ![1, 1, 4096]⟩
abbrev S1x1 : Shape := ⟨2, ![1, 1]⟩
abbrev S1x4095 : Shape := ⟨2, ![1, 4095]⟩
abbrev S512x1 : Shape := ⟨2, ![512, 1]⟩
abbrev S511x1 : Shape := ⟨2, ![511, 1]⟩
abbrev S1x512x1 : Shape := ⟨3, ![1, 512, 1]⟩

abbrev nBuf : Space → Nat
  | .hbm => 2
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .local _ .vmem, ⟨0, _⟩ => ⟨S2x512x4096, .f32⟩
  | .local _ .vmem, ⟨1, _⟩ => ⟨S2x512x4096, .f32⟩
  | .local _ .vmem, ⟨2, _⟩ => ⟨S2x1x4096, .f32⟩
  | .local _ .vmem, ⟨3, _⟩ => ⟨S2x1x4096, .f32⟩
  | .local _ .vmem, ⟨4, _⟩ => ⟨S1x4096, .f32⟩
  | .local _ .vmem, ⟨5, _⟩ => ⟨S4096x128, .f32⟩
  | .local _ .vmem, ⟨6, _⟩ => ⟨S4096x1, .f32⟩
  | .local _ .vmem, ⟨7, _⟩ => ⟨S4096x1, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_2 v2
  let c2_i32_4 : BitVec 32 := 2#32
  let v8 : BitVec 32 := Scalar.muli v7 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_6 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v12 : BitVec 32 := Scalar.subi c1_i32_6 v5
  let c1_i32_10 : BitVec 32 := 1#32
  let v15 : BitVec 32 := Scalar.muli v12 c1_i32_10
  let v16 : BitVec 32 := Scalar.addi v14 v15
  v16.toNat
def k0_off1 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_12 : BitVec 32 := 0#32
  let v17 : BitVec 1 := Scalar.cmpi .eq v2 c0_i32_12
  let c4095_i32 : BitVec 32 := 4095#32
  let c0_i32_13 : BitVec 32 := 0#32
  let v18 : BitVec 32 := Scalar.select v17 c4095_i32 c0_i32_13
  let c0_i32_20 : BitVec 32 := 0#32
  ![v18.toNat, 0]
def k0_dev3 (d0 : Dev nD) : Nat :=
  let c0_i32_18 : BitVec 32 := 0#32
  let c1_i32_14 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v19 : BitVec 32 := Scalar.subi c1_i32_14 v2
  let c2_i32_17 : BitVec 32 := 2#32
  let v20 : BitVec 32 := Scalar.muli v19 c2_i32_17
  let v21 : BitVec 32 := Scalar.addi c0_i32_18 v20
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_19 : BitVec 32 := 1#32
  let v22 : BitVec 32 := Scalar.muli v5 c1_i32_19
  let v23 : BitVec 32 := Scalar.addi v21 v22
  v23.toNat
def k0_dev4 (d0 : Dev nD) : Nat :=
  let c0_i32_33 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_32 : BitVec 32 := 2#32
  let v42 : BitVec 32 := Scalar.muli v2 c2_i32_32
  let v43 : BitVec 32 := Scalar.addi c0_i32_33 v42
  let c1_i32_29 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v41 : BitVec 32 := Scalar.subi c1_i32_29 v5
  let c1_i32_34 : BitVec 32 := 1#32
  let v44 : BitVec 32 := Scalar.muli v41 c1_i32_34
  let v45 : BitVec 32 := Scalar.addi v43 v44
  v45.toNat
def k0_mult1 : BitVec 32 :=
  let c0_i32_53 : BitVec 32 := 0#32
  c0_i32_53
def k0_off2 : Fin 2 → Nat :=
  let c0_i32_53 : BitVec 32 := 0#32
  let v68 : BitVec 32 := c0_i32_53
  let c512_i32 : BitVec 32 := 512#32
  let v78 : BitVec 32 := Scalar.addi v68 c512_i32
  let c0_i32_67 : BitVec 32 := 0#32
  ![v78.toNat, 0]
@[reducible] def k0_t1_loop : Scf.Loop 32 :=
  let c0_i32_68 : BitVec 32 := 0#32
  let c8_i32 : BitVec 32 := 8#32
  let v84 : BitVec 32 := Scalar.addi c0_i32_68 c8_i32
  let c1_i32_69 : BitVec 32 := 1#32
  ⟨c0_i32_68, v84, c1_i32_69⟩
def k0_cond5 (k0_t1 : Fin k0_t1_loop.trips) : BitVec 1 :=
  let c0_i32_68 : BitVec 32 := 0#32
  let c1_i32_69 : BitVec 32 := 1#32
  let arg16 : BitVec 32 := Scf.iv c0_i32_68 c1_i32_69 k0_t1
  let c7_i32 : BitVec 32 := 7#32
  let v98 : BitVec 1 := Scalar.cmpi .slt arg16 c7_i32
  let v99 : BitVec 32 := Scalar.extui v98
  let c0_i32_86 : BitVec 32 := 0#32
  let v100 : BitVec 1 := Scalar.cmpi .ne v99 c0_i32_86
  v100

def k0_mult2 (k0_t1 : Fin k0_t1_loop.trips) : BitVec 32 :=
  let c0_i32_68 : BitVec 32 := 0#32
  let c1_i32_69 : BitVec 32 := 1#32
  let arg16 : BitVec 32 := Scf.iv c0_i32_68 c1_i32_69 k0_t1
  let c1_i32_149 : BitVec 32 := 1#32
  let v262 : BitVec 32 := Scalar.addi arg16 c1_i32_149
  let c512_i32_152 : BitVec 32 := 512#32
  let v265 : BitVec 32 := Scalar.muli v262 c512_i32_152
  v265
def k0_off3 (k0_t1 : Fin k0_t1_loop.trips) : Fin 1 → Nat :=
  let c0_i32_68 : BitVec 32 := 0#32
  let c1_i32_69 : BitVec 32 := 1#32
  let arg16 : BitVec 32 := Scf.iv c0_i32_68 c1_i32_69 k0_t1
  let c1_i32_150 : BitVec 32 := 1#32
  let v263 : BitVec 32 := Scalar.addi arg16 c1_i32_150
  let c2_i32_151 : BitVec 32 := 2#32
  let v264 : BitVec 32 := Scalar.remsi v263 c2_i32_151
  ![v264.toNat]
def k0_off4 (k0_t1 : Fin k0_t1_loop.trips) : Fin 3 → Nat :=
  let c0_i32_68 : BitVec 32 := 0#32
  let c1_i32_69 : BitVec 32 := 1#32
  let arg16 : BitVec 32 := Scf.iv c0_i32_68 c1_i32_69 k0_t1
  let c1_i32_150 : BitVec 32 := 1#32
  let v263 : BitVec 32 := Scalar.addi arg16 c1_i32_150
  let c2_i32_151 : BitVec 32 := 2#32
  let v264 : BitVec 32 := Scalar.remsi v263 c2_i32_151
  let c0_i32_153 : BitVec 32 := 0#32
  let c0_i32_154 : BitVec 32 := 0#32
  ![v264.toNat, 0, 0]
def k0_off5 (k0_t1 : Fin k0_t1_loop.trips) : Fin 2 → Nat :=
  let c0_i32_68 : BitVec 32 := 0#32
  let c1_i32_69 : BitVec 32 := 1#32
  let arg16 : BitVec 32 := Scf.iv c0_i32_68 c1_i32_69 k0_t1
  let c1_i32_149 : BitVec 32 := 1#32
  let v262 : BitVec 32 := Scalar.addi arg16 c1_i32_149
  let c512_i32_152 : BitVec 32 := 512#32
  let v265 : BitVec 32 := Scalar.muli v262 c512_i32_152
  let v266 : BitVec 32 := v265
  let c0_i32_155 : BitVec 32 := 0#32
  ![v266.toNat, 0]
def k0_cond6 (k0_t1 : Fin k0_t1_loop.trips) : BitVec 1 :=
  let c0_i32_68 : BitVec 32 := 0#32
  let c1_i32_69 : BitVec 32 := 1#32
  let arg16 : BitVec 32 := Scf.iv c0_i32_68 c1_i32_69 k0_t1
  let c1_i32_149 : BitVec 32 := 1#32
  let v262 : BitVec 32 := Scalar.addi arg16 c1_i32_149
  let c0_i32_156 : BitVec 32 := 0#32
  let v272 : BitVec 1 := Scalar.cmpi .sgt v262 c0_i32_156
  let v273 : BitVec 32 := Scalar.extui v272
  let c0_i32_157 : BitVec 32 := 0#32
  let v274 : BitVec 1 := Scalar.cmpi .ne v273 c0_i32_157
  v274

def k0_off6 (k0_t1 : Fin k0_t1_loop.trips) : Fin 1 → Nat :=
  let c0_i32_68 : BitVec 32 := 0#32
  let c1_i32_69 : BitVec 32 := 1#32
  let arg16 : BitVec 32 := Scf.iv c0_i32_68 c1_i32_69 k0_t1
  let c1_i32_150 : BitVec 32 := 1#32
  let v263 : BitVec 32 := Scalar.addi arg16 c1_i32_150
  let c2_i32_151 : BitVec 32 := 2#32
  let v264 : BitVec 32 := Scalar.remsi v263 c2_i32_151
  ![v264.toNat]
def k0_off7 (k0_t1 : Fin k0_t1_loop.trips) : Fin 3 → Nat :=
  let c0_i32_68 : BitVec 32 := 0#32
  let c1_i32_69 : BitVec 32 := 1#32
  let arg16 : BitVec 32 := Scf.iv c0_i32_68 c1_i32_69 k0_t1
  let c1_i32_150 : BitVec 32 := 1#32
  let v263 : BitVec 32 := Scalar.addi arg16 c1_i32_150
  let c2_i32_151 : BitVec 32 := 2#32
  let v264 : BitVec 32 := Scalar.remsi v263 c2_i32_151
  let c0_i32_165 : BitVec 32 := 0#32
  let c0_i32_166 : BitVec 32 := 0#32
  ![v264.toNat, 0, 0]
def k0_off8 (k0_t1 : Fin k0_t1_loop.trips) : Fin 2 → Nat :=
  let c0_i32_68 : BitVec 32 := 0#32
  let c1_i32_69 : BitVec 32 := 1#32
  let arg16 : BitVec 32 := Scf.iv c0_i32_68 c1_i32_69 k0_t1
  let c1_i32_149 : BitVec 32 := 1#32
  let v262 : BitVec 32 := Scalar.addi arg16 c1_i32_149
  let c512_i32_152 : BitVec 32 := 512#32
  let v265 : BitVec 32 := Scalar.muli v262 c512_i32_152
  let v266 : BitVec 32 := v265
  let c1_i32_164 : BitVec 32 := 1#32
  let v284 : BitVec 32 := Scalar.subi v266 c1_i32_164
  let c0_i32_167 : BitVec 32 := 0#32
  ![v284.toNat, 0]
def k0_cond7 (k0_t1 : Fin k0_t1_loop.trips) : BitVec 1 :=
  let c0_i32_68 : BitVec 32 := 0#32
  let c1_i32_69 : BitVec 32 := 1#32
  let arg16 : BitVec 32 := Scf.iv c0_i32_68 c1_i32_69 k0_t1
  let c1_i32_149 : BitVec 32 := 1#32
  let v262 : BitVec 32 := Scalar.addi arg16 c1_i32_149
  let c0_i32_158 : BitVec 32 := 0#32
  let v275 : BitVec 1 := Scalar.cmpi .eq v262 c0_i32_158
  let v276 : BitVec 32 := Scalar.extui v275
  let c0_i32_159 : BitVec 32 := 0#32
  let v277 : BitVec 1 := Scalar.cmpi .ne v276 c0_i32_159
  v277

def k0_off9 (k0_t1 : Fin k0_t1_loop.trips) : Fin 3 → Nat :=
  let c0_i32_68 : BitVec 32 := 0#32
  let c1_i32_69 : BitVec 32 := 1#32
  let arg16 : BitVec 32 := Scf.iv c0_i32_68 c1_i32_69 k0_t1
  let c1_i32_150 : BitVec 32 := 1#32
  let v263 : BitVec 32 := Scalar.addi arg16 c1_i32_150
  let c2_i32_151 : BitVec 32 := 2#32
  let v264 : BitVec 32 := Scalar.remsi v263 c2_i32_151
  let c0_i32_165 : BitVec 32 := 0#32
  let c0_i32_166 : BitVec 32 := 0#32
  ![v264.toNat, 0, 0]
def k0_cond8 (k0_t1 : Fin k0_t1_loop.trips) : BitVec 1 :=
  let c0_i32_68 : BitVec 32 := 0#32
  let c1_i32_69 : BitVec 32 := 1#32
  let arg16 : BitVec 32 := Scf.iv c0_i32_68 c1_i32_69 k0_t1
  let c1_i32_149 : BitVec 32 := 1#32
  let v262 : BitVec 32 := Scalar.addi arg16 c1_i32_149
  let c7_i32_160 : BitVec 32 := 7#32
  let v278 : BitVec 1 := Scalar.cmpi .slt v262 c7_i32_160
  let v279 : BitVec 32 := Scalar.extui v278
  let c0_i32_161 : BitVec 32 := 0#32
  let v280 : BitVec 1 := Scalar.cmpi .ne v279 c0_i32_161
  v280

def k0_off10 (k0_t1 : Fin k0_t1_loop.trips) : Fin 1 → Nat :=
  let c0_i32_68 : BitVec 32 := 0#32
  let c1_i32_69 : BitVec 32 := 1#32
  let arg16 : BitVec 32 := Scf.iv c0_i32_68 c1_i32_69 k0_t1
  let c1_i32_150 : BitVec 32 := 1#32
  let v263 : BitVec 32 := Scalar.addi arg16 c1_i32_150
  let c2_i32_151 : BitVec 32 := 2#32
  let v264 : BitVec 32 := Scalar.remsi v263 c2_i32_151
  ![v264.toNat]
def k0_off11 (k0_t1 : Fin k0_t1_loop.trips) : Fin 3 → Nat :=
  let c0_i32_68 : BitVec 32 := 0#32
  let c1_i32_69 : BitVec 32 := 1#32
  let arg16 : BitVec 32 := Scf.iv c0_i32_68 c1_i32_69 k0_t1
  let c1_i32_150 : BitVec 32 := 1#32
  let v263 : BitVec 32 := Scalar.addi arg16 c1_i32_150
  let c2_i32_151 : BitVec 32 := 2#32
  let v264 : BitVec 32 := Scalar.remsi v263 c2_i32_151
  let c0_i32_165 : BitVec 32 := 0#32
  let c0_i32_166 : BitVec 32 := 0#32
  ![v264.toNat, 0, 0]
def k0_off12 (k0_t1 : Fin k0_t1_loop.trips) : Fin 2 → Nat :=
  let c0_i32_68 : BitVec 32 := 0#32
  let c1_i32_69 : BitVec 32 := 1#32
  let arg16 : BitVec 32 := Scf.iv c0_i32_68 c1_i32_69 k0_t1
  let c1_i32_149 : BitVec 32 := 1#32
  let v262 : BitVec 32 := Scalar.addi arg16 c1_i32_149
  let c512_i32_152 : BitVec 32 := 512#32
  let v265 : BitVec 32 := Scalar.muli v262 c512_i32_152
  let v266 : BitVec 32 := v265
  let c512_i32_164 : BitVec 32 := 512#32
  let v284 : BitVec 32 := Scalar.addi v266 c512_i32_164
  let c0_i32_167 : BitVec 32 := 0#32
  ![v284.toNat, 0]
def k0_cond9 (k0_t1 : Fin k0_t1_loop.trips) : BitVec 1 :=
  let c0_i32_68 : BitVec 32 := 0#32
  let c1_i32_69 : BitVec 32 := 1#32
  let arg16 : BitVec 32 := Scf.iv c0_i32_68 c1_i32_69 k0_t1
  let c1_i32_149 : BitVec 32 := 1#32
  let v262 : BitVec 32 := Scalar.addi arg16 c1_i32_149
  let c7_i32_162 : BitVec 32 := 7#32
  let v281 : BitVec 1 := Scalar.cmpi .eq v262 c7_i32_162
  let v282 : BitVec 32 := Scalar.extui v281
  let c0_i32_163 : BitVec 32 := 0#32
  let v283 : BitVec 1 := Scalar.cmpi .ne v282 c0_i32_163
  v283

def k0_off13 (k0_t1 : Fin k0_t1_loop.trips) : Fin 3 → Nat :=
  let c0_i32_68 : BitVec 32 := 0#32
  let c1_i32_69 : BitVec 32 := 1#32
  let arg16 : BitVec 32 := Scf.iv c0_i32_68 c1_i32_69 k0_t1
  let c1_i32_150 : BitVec 32 := 1#32
  let v263 : BitVec 32 := Scalar.addi arg16 c1_i32_150
  let c2_i32_151 : BitVec 32 := 2#32
  let v264 : BitVec 32 := Scalar.remsi v263 c2_i32_151
  let c0_i32_165 : BitVec 32 := 0#32
  let c0_i32_166 : BitVec 32 := 0#32
  ![v264.toNat, 0, 0]
def k0_off14 (k0_t1 : Fin k0_t1_loop.trips) : Fin 1 → Nat :=
  let c0_i32_68 : BitVec 32 := 0#32
  let c1_i32_69 : BitVec 32 := 1#32
  let arg16 : BitVec 32 := Scf.iv c0_i32_68 c1_i32_69 k0_t1
  let c2_i32_85 : BitVec 32 := 2#32
  let v97 : BitVec 32 := Scalar.remsi arg16 c2_i32_85
  ![v97.toNat]
def k0_off15 (k0_t1 : Fin k0_t1_loop.trips) : Fin 3 → Nat :=
  let c0_i32_68 : BitVec 32 := 0#32
  let c1_i32_69 : BitVec 32 := 1#32
  let arg16 : BitVec 32 := Scf.iv c0_i32_68 c1_i32_69 k0_t1
  let c2_i32_85 : BitVec 32 := 2#32
  let v97 : BitVec 32 := Scalar.remsi arg16 c2_i32_85
  let c0_i32_87 : BitVec 32 := 0#32
  let c0_i32_88 : BitVec 32 := 0#32
  ![v97.toNat, 0, 0]
def k0_cond10 (k0_t1 : Fin k0_t1_loop.trips) : BitVec 1 :=
  let c0_i32_68 : BitVec 32 := 0#32
  let c1_i32_69 : BitVec 32 := 1#32
  let arg16 : BitVec 32 := Scf.iv c0_i32_68 c1_i32_69 k0_t1
  let c0_i32_91 : BitVec 32 := 0#32
  let v107 : BitVec 1 := Scalar.cmpi .sgt arg16 c0_i32_91
  let v108 : BitVec 32 := Scalar.extui v107
  let c0_i32_92 : BitVec 32 := 0#32
  let v109 : BitVec 1 := Scalar.cmpi .ne v108 c0_i32_92
  v109

def k0_off16 (k0_t1 : Fin k0_t1_loop.trips) : Fin 1 → Nat :=
  let c0_i32_68 : BitVec 32 := 0#32
  let c1_i32_69 : BitVec 32 := 1#32
  let arg16 : BitVec 32 := Scf.iv c0_i32_68 c1_i32_69 k0_t1
  let c2_i32_85 : BitVec 32 := 2#32
  let v97 : BitVec 32 := Scalar.remsi arg16 c2_i32_85
  ![v97.toNat]
def k0_off17 (k0_t1 : Fin k0_t1_loop.trips) : Fin 3 → Nat :=
  let c0_i32_68 : BitVec 32 := 0#32
  let c1_i32_69 : BitVec 32 := 1#32
  let arg16 : BitVec 32 := Scf.iv c0_i32_68 c1_i32_69 k0_t1
  let c2_i32_85 : BitVec 32 := 2#32
  let v97 : BitVec 32 := Scalar.remsi arg16 c2_i32_85
  let c0_i32_149 : BitVec 32 := 0#32
  let c0_i32_150 : BitVec 32 := 0#32
  ![v97.toNat, 0, 0]
def k0_cond11 (k0_t1 : Fin k0_t1_loop.trips) : BitVec 1 :=
  let c0_i32_68 : BitVec 32 := 0#32
  let c1_i32_69 : BitVec 32 := 1#32
  let arg16 : BitVec 32 := Scf.iv c0_i32_68 c1_i32_69 k0_t1
  let c0_i32_93 : BitVec 32 := 0#32
  let v110 : BitVec 1 := Scalar.cmpi .eq arg16 c0_i32_93
  let v111 : BitVec 32 := Scalar.extui v110
  let c0_i32_94 : BitVec 32 := 0#32
  let v112 : BitVec 1 := Scalar.cmpi .ne v111 c0_i32_94
  v112

def k0_off18 (k0_t1 : Fin k0_t1_loop.trips) : Fin 3 → Nat :=
  let c0_i32_68 : BitVec 32 := 0#32
  let c1_i32_69 : BitVec 32 := 1#32
  let arg16 : BitVec 32 := Scf.iv c0_i32_68 c1_i32_69 k0_t1
  let c2_i32_85 : BitVec 32 := 2#32
  let v97 : BitVec 32 := Scalar.remsi arg16 c2_i32_85
  let c0_i32_150 : BitVec 32 := 0#32
  let c0_i32_151 : BitVec 32 := 0#32
  ![v97.toNat, 0, 0]
def k0_cond12 (k0_t1 : Fin k0_t1_loop.trips) : BitVec 1 :=
  let c0_i32_68 : BitVec 32 := 0#32
  let c1_i32_69 : BitVec 32 := 1#32
  let arg16 : BitVec 32 := Scf.iv c0_i32_68 c1_i32_69 k0_t1
  let c7_i32_95 : BitVec 32 := 7#32
  let v113 : BitVec 1 := Scalar.cmpi .slt arg16 c7_i32_95
  let v114 : BitVec 32 := Scalar.extui v113
  let c0_i32_96 : BitVec 32 := 0#32
  let v115 : BitVec 1 := Scalar.cmpi .ne v114 c0_i32_96
  v115

def k0_off19 (k0_t1 : Fin k0_t1_loop.trips) : Fin 1 → Nat :=
  let c0_i32_68 : BitVec 32 := 0#32
  let c1_i32_69 : BitVec 32 := 1#32
  let arg16 : BitVec 32 := Scf.iv c0_i32_68 c1_i32_69 k0_t1
  let c2_i32_85 : BitVec 32 := 2#32
  let v97 : BitVec 32 := Scalar.remsi arg16 c2_i32_85
  ![v97.toNat]
def k0_off20 (k0_t1 : Fin k0_t1_loop.trips) : Fin 3 → Nat :=
  let c0_i32_68 : BitVec 32 := 0#32
  let c1_i32_69 : BitVec 32 := 1#32
  let arg16 : BitVec 32 := Scf.iv c0_i32_68 c1_i32_69 k0_t1
  let c2_i32_85 : BitVec 32 := 2#32
  let v97 : BitVec 32 := Scalar.remsi arg16 c2_i32_85
  let c0_i32_149 : BitVec 32 := 0#32
  let c0_i32_150 : BitVec 32 := 0#32
  ![v97.toNat, 0, 0]
def k0_cond13 (k0_t1 : Fin k0_t1_loop.trips) : BitVec 1 :=
  let c0_i32_68 : BitVec 32 := 0#32
  let c1_i32_69 : BitVec 32 := 1#32
  let arg16 : BitVec 32 := Scf.iv c0_i32_68 c1_i32_69 k0_t1
  let c7_i32_97 : BitVec 32 := 7#32
  let v116 : BitVec 1 := Scalar.cmpi .eq arg16 c7_i32_97
  let v117 : BitVec 32 := Scalar.extui v116
  let c0_i32_98 : BitVec 32 := 0#32
  let v118 : BitVec 1 := Scalar.cmpi .ne v117 c0_i32_98
  v118

def k0_off21 (k0_t1 : Fin k0_t1_loop.trips) : Fin 3 → Nat :=
  let c0_i32_68 : BitVec 32 := 0#32
  let c1_i32_69 : BitVec 32 := 1#32
  let arg16 : BitVec 32 := Scf.iv c0_i32_68 c1_i32_69 k0_t1
  let c2_i32_85 : BitVec 32 := 2#32
  let v97 : BitVec 32 := Scalar.remsi arg16 c2_i32_85
  let c0_i32_150 : BitVec 32 := 0#32
  let c0_i32_151 : BitVec 32 := 0#32
  ![v97.toNat, 0, 0]
def k0_cond14 (k0_t1 : Fin k0_t1_loop.trips) : BitVec 1 :=
  let c0_i32_68 : BitVec 32 := 0#32
  let c1_i32_69 : BitVec 32 := 1#32
  let arg16 : BitVec 32 := Scf.iv c0_i32_68 c1_i32_69 k0_t1
  let c2_i32_99 : BitVec 32 := 2#32
  let v119 : BitVec 1 := Scalar.cmpi .sge arg16 c2_i32_99
  let v120 : BitVec 32 := Scalar.extui v119
  let c0_i32_100 : BitVec 32 := 0#32
  let v121 : BitVec 1 := Scalar.cmpi .ne v120 c0_i32_100
  v121

def k0_off22 (k0_t1 : Fin k0_t1_loop.trips) : Fin 1 → Nat :=
  let c0_i32_68 : BitVec 32 := 0#32
  let c1_i32_69 : BitVec 32 := 1#32
  let arg16 : BitVec 32 := Scf.iv c0_i32_68 c1_i32_69 k0_t1
  let c2_i32_85 : BitVec 32 := 2#32
  let v97 : BitVec 32 := Scalar.remsi arg16 c2_i32_85
  ![v97.toNat]
def k0_off23 (k0_t1 : Fin k0_t1_loop.trips) : Fin 3 → Nat :=
  let c0_i32_68 : BitVec 32 := 0#32
  let c1_i32_69 : BitVec 32 := 1#32
  let arg16 : BitVec 32 := Scf.iv c0_i32_68 c1_i32_69 k0_t1
  let c2_i32_85 : BitVec 32 := 2#32
  let v97 : BitVec 32 := Scalar.remsi arg16 c2_i32_85
  let c0_i32_149 : BitVec 32 := 0#32
  let c0_i32_150 : BitVec 32 := 0#32
  ![v97.toNat, 0, 0]
def k0_mult3 (k0_t1 : Fin k0_t1_loop.trips) : BitVec 32 :=
  let c0_i32_68 : BitVec 32 := 0#32
  let c1_i32_69 : BitVec 32 := 1#32
  let arg16 : BitVec 32 := Scf.iv c0_i32_68 c1_i32_69 k0_t1
  let c512_i32_101 : BitVec 32 := 512#32
  let v122 : BitVec 32 := Scalar.muli arg16 c512_i32_101
  v122
def k0_off24 (k0_t1 : Fin k0_t1_loop.trips) : Fin 3 → Nat :=
  let c0_i32_68 : BitVec 32 := 0#32
  let c1_i32_69 : BitVec 32 := 1#32
  let arg16 : BitVec 32 := Scf.iv c0_i32_68 c1_i32_69 k0_t1
  let c2_i32_85 : BitVec 32 := 2#32
  let v97 : BitVec 32 := Scalar.remsi arg16 c2_i32_85
  let v124 : Index := Scalar.indexCast v97
  let c0 : Index := 0#32
  let c0_102 : Index := 0#32
  ![v124.toNat, 0, 0]
def k0_off25 (k0_t1 : Fin k0_t1_loop.trips) : Fin 3 → Nat :=
  let c0_i32_68 : BitVec 32 := 0#32
  let c1_i32_69 : BitVec 32 := 1#32
  let arg16 : BitVec 32 := Scf.iv c0_i32_68 c1_i32_69 k0_t1
  let c2_i32_85 : BitVec 32 := 2#32
  let v97 : BitVec 32 := Scalar.remsi arg16 c2_i32_85
  let v145 : Index := Scalar.indexCast v97
  let c0_109 : Index := 0#32
  let c0_110 : Index := 0#32
  ![v145.toNat, 0, 0]
def k0_off26 (k0_t1 : Fin k0_t1_loop.trips) : Fin 2 → Nat :=
  let c0_i32_68 : BitVec 32 := 0#32
  let c1_i32_69 : BitVec 32 := 1#32
  let arg16 : BitVec 32 := Scf.iv c0_i32_68 c1_i32_69 k0_t1
  let c512_i32_101 : BitVec 32 := 512#32
  let v122 : BitVec 32 := Scalar.muli arg16 c512_i32_101
  let v123 : BitVec 32 := v122
  let v151 : Index := Scalar.indexCast v123
  let c0_113 : Index := 0#32
  ![v151.toNat, 0]
def k0_off27 (k0_t1 : Fin k0_t1_loop.trips) : Fin 3 → Nat :=
  let c0_i32_68 : BitVec 32 := 0#32
  let c1_i32_69 : BitVec 32 := 1#32
  let arg16 : BitVec 32 := Scf.iv c0_i32_68 c1_i32_69 k0_t1
  let c2_i32_85 : BitVec 32 := 2#32
  let v97 : BitVec 32 := Scalar.remsi arg16 c2_i32_85
  let v169 : Index := Scalar.indexCast v97
  let c0_117 : Index := 0#32
  let c0_118 : Index := 0#32
  ![v169.toNat, 0, 0]
def k0_off28 (k0_t1 : Fin k0_t1_loop.trips) : Fin 2 → Nat :=
  let c0_i32_68 : BitVec 32 := 0#32
  let c1_i32_69 : BitVec 32 := 1#32
  let arg16 : BitVec 32 := Scf.iv c0_i32_68 c1_i32_69 k0_t1
  let c512_i32_101 : BitVec 32 := 512#32
  let v122 : BitVec 32 := Scalar.muli arg16 c512_i32_101
  let v123 : BitVec 32 := v122
  let c512_i32_119 : BitVec 32 := 512#32
  let v173 : BitVec 32 := Scalar.addi v123 c512_i32_119
  let c1_i32_120 : BitVec 32 := 1#32
  let v174 : BitVec 32 := Scalar.subi v173 c1_i32_120
  let v175 : Index := Scalar.indexCast v174
  let c0_121 : Index := 0#32
  ![v175.toNat, 0]
def k0_off29 (k0_t1 : Fin k0_t1_loop.trips) : Fin 3 → Nat :=
  let c0_i32_68 : BitVec 32 := 0#32
  let c1_i32_69 : BitVec 32 := 1#32
  let arg16 : BitVec 32 := Scf.iv c0_i32_68 c1_i32_69 k0_t1
  let c2_i32_85 : BitVec 32 := 2#32
  let v97 : BitVec 32 := Scalar.remsi arg16 c2_i32_85
  let v195 : Index := Scalar.indexCast v97
  let c511 : Index := 511#32
  let c0_127 : Index := 0#32
  ![v195.toNat, 511, 0]
def k0_off30 (k0_t1 : Fin k0_t1_loop.trips) : Fin 2 → Nat :=
  let c0_i32_68 : BitVec 32 := 0#32
  let c1_i32_69 : BitVec 32 := 1#32
  let arg16 : BitVec 32 := Scf.iv c0_i32_68 c1_i32_69 k0_t1
  let c512_i32_101 : BitVec 32 := 512#32
  let v122 : BitVec 32 := Scalar.muli arg16 c512_i32_101
  let v123 : BitVec 32 := v122
  let v199 : Index := Scalar.indexCast v123
  let c0_128 : Index := 0#32
  ![v199.toNat, 0]
def k0_off31 (k0_t1 : Fin k0_t1_loop.trips) : Fin 3 → Nat :=
  let c0_i32_68 : BitVec 32 := 0#32
  let c1_i32_69 : BitVec 32 := 1#32
  let arg16 : BitVec 32 := Scf.iv c0_i32_68 c1_i32_69 k0_t1
  let c2_i32_85 : BitVec 32 := 2#32
  let v97 : BitVec 32 := Scalar.remsi arg16 c2_i32_85
  let v217 : Index := Scalar.indexCast v97
  let c0_131 : Index := 0#32
  let c0_132 : Index := 0#32
  ![v217.toNat, 0, 0]
def k0_off32 (k0_t1 : Fin k0_t1_loop.trips) : Fin 3 → Nat :=
  let c0_i32_68 : BitVec 32 := 0#32
  let c1_i32_69 : BitVec 32 := 1#32
  let arg16 : BitVec 32 := Scf.iv c0_i32_68 c1_i32_69 k0_t1
  let c2_i32_85 : BitVec 32 := 2#32
  let v97 : BitVec 32 := Scalar.remsi arg16 c2_i32_85
  let v237 : Index := Scalar.indexCast v97
  let c0_135 : Index := 0#32
  let c4095 : Index := 4095#32
  ![v237.toNat, 0, 4095]
def k0_cond15 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_136 : BitVec 32 := 0#32
  let v241 : BitVec 1 := Scalar.cmpi .eq v5 c0_i32_136
  let v242 : BitVec 32 := Scalar.extui v241
  let c0_i32_137 : BitVec 32 := 0#32
  let v243 : BitVec 1 := Scalar.cmpi .ne v242 c0_i32_137
  v243

def k0_off33 (k0_t1 : Fin k0_t1_loop.trips) : Fin 3 → Nat :=
  let c0_i32_68 : BitVec 32 := 0#32
  let c1_i32_69 : BitVec 32 := 1#32
  let arg16 : BitVec 32 := Scf.iv c0_i32_68 c1_i32_69 k0_t1
  let c2_i32_85 : BitVec 32 := 2#32
  let v97 : BitVec 32 := Scalar.remsi arg16 c2_i32_85
  let v263 : Index := Scalar.indexCast v97
  let c0_149 : Index := 0#32
  let c0_150 : Index := 0#32
  ![v263.toNat, 0, 0]
def k0_cond16 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_138 : BitVec 32 := 1#32
  let v244 : BitVec 1 := Scalar.cmpi .eq v5 c1_i32_138
  let v245 : BitVec 32 := Scalar.extui v244
  let c0_i32_139 : BitVec 32 := 0#32
  let v246 : BitVec 1 := Scalar.cmpi .ne v245 c0_i32_139
  v246

def k0_off34 (k0_t1 : Fin k0_t1_loop.trips) : Fin 3 → Nat :=
  let c0_i32_68 : BitVec 32 := 0#32
  let c1_i32_69 : BitVec 32 := 1#32
  let arg16 : BitVec 32 := Scf.iv c0_i32_68 c1_i32_69 k0_t1
  let c2_i32_85 : BitVec 32 := 2#32
  let v97 : BitVec 32 := Scalar.remsi arg16 c2_i32_85
  let v263 : Index := Scalar.indexCast v97
  let c0_149 : Index := 0#32
  let c4095_150 : Index := 4095#32
  ![v263.toNat, 0, 4095]
def k0_cond17 (d0 : Dev nD) (k0_t1 : Fin k0_t1_loop.trips) : BitVec 1 :=
  let c0_i32_68 : BitVec 32 := 0#32
  let c1_i32_69 : BitVec 32 := 1#32
  let arg16 : BitVec 32 := Scf.iv c0_i32_68 c1_i32_69 k0_t1
  let c0_i32_140 : BitVec 32 := 0#32
  let v247 : BitVec 1 := Scalar.cmpi .eq arg16 c0_i32_140
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_141 : BitVec 32 := 0#32
  let v248 : BitVec 1 := Scalar.cmpi .eq v2 c0_i32_141
  let v249 : BitVec 1 := Scalar.andi v247 v248
  let v250 : BitVec 32 := Scalar.extui v249
  let c0_i32_142 : BitVec 32 := 0#32
  let v251 : BitVec 1 := Scalar.cmpi .ne v250 c0_i32_142
  v251

def k0_off35 (k0_t1 : Fin k0_t1_loop.trips) : Fin 3 → Nat :=
  let c0_i32_68 : BitVec 32 := 0#32
  let c1_i32_69 : BitVec 32 := 1#32
  let arg16 : BitVec 32 := Scf.iv c0_i32_68 c1_i32_69 k0_t1
  let c2_i32_85 : BitVec 32 := 2#32
  let v97 : BitVec 32 := Scalar.remsi arg16 c2_i32_85
  let v263 : Index := Scalar.indexCast v97
  let c0_149 : Index := 0#32
  let c0_150 : Index := 0#32
  ![v263.toNat, 0, 0]
def k0_cond18 (d0 : Dev nD) (k0_t1 : Fin k0_t1_loop.trips) : BitVec 1 :=
  let c0_i32_68 : BitVec 32 := 0#32
  let c1_i32_69 : BitVec 32 := 1#32
  let arg16 : BitVec 32 := Scf.iv c0_i32_68 c1_i32_69 k0_t1
  let c7_i32_143 : BitVec 32 := 7#32
  let v252 : BitVec 1 := Scalar.cmpi .eq arg16 c7_i32_143
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_144 : BitVec 32 := 1#32
  let v253 : BitVec 1 := Scalar.cmpi .eq v2 c1_i32_144
  let v254 : BitVec 1 := Scalar.andi v252 v253
  let v255 : BitVec 32 := Scalar.extui v254
  let c0_i32_145 : BitVec 32 := 0#32
  let v256 : BitVec 1 := Scalar.cmpi .ne v255 c0_i32_145
  v256

def k0_off36 (k0_t1 : Fin k0_t1_loop.trips) : Fin 3 → Nat :=
  let c0_i32_68 : BitVec 32 := 0#32
  let c1_i32_69 : BitVec 32 := 1#32
  let arg16 : BitVec 32 := Scf.iv c0_i32_68 c1_i32_69 k0_t1
  let c2_i32_85 : BitVec 32 := 2#32
  let v97 : BitVec 32 := Scalar.remsi arg16 c2_i32_85
  let v263 : Index := Scalar.indexCast v97
  let c511_149 : Index := 511#32
  let c0_150 : Index := 0#32
  ![v263.toNat, 511, 0]
def k0_off37 (k0_t1 : Fin k0_t1_loop.trips) : Fin 2 → Nat :=
  let c0_i32_68 : BitVec 32 := 0#32
  let c1_i32_69 : BitVec 32 := 1#32
  let arg16 : BitVec 32 := Scf.iv c0_i32_68 c1_i32_69 k0_t1
  let c512_i32_101 : BitVec 32 := 512#32
  let v122 : BitVec 32 := Scalar.muli arg16 c512_i32_101
  let v123 : BitVec 32 := v122
  let c0_i32_146 : BitVec 32 := 0#32
  ![v123.toNat, 0]
-- ==== ReferenceIdeal.lean ====
abbrev S8192x8192 : Shape := ⟨2, ![8192, 8192]⟩
abbrev S8190x8190 : Shape := ⟨2, ![8190, 8190]⟩
abbrev S_ : Shape := ⟨0, ![]⟩
abbrev S1 : Shape := ⟨1, ![1]⟩
abbrev S2 : Shape := ⟨1, ![2]⟩

abbrev nBuf : Space → Nat
  | .hbm => 31
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8190x8190, .f32⟩
  | .hbm, ⟨2, _⟩ => ⟨S_, .f32⟩
  | .hbm, ⟨3, _⟩ => ⟨S8190x8190, .f32⟩
  | .hbm, ⟨4, _⟩ => ⟨S8190x8190, .f32⟩
  | .hbm, ⟨5, _⟩ => ⟨S8190x8190, .f32⟩
  | .hbm, ⟨6, _⟩ => ⟨S_, .f32⟩
  | .hbm, ⟨7, _⟩ => ⟨S8190x8190, .f32⟩
  | .hbm, ⟨8, _⟩ => ⟨S8190x8190, .f32⟩
  | .hbm, ⟨9, _⟩ => ⟨S8190x8190, .f32⟩
  | .hbm, ⟨10, _⟩ => ⟨S8190x8190, .f32⟩
  | .hbm, ⟨11, _⟩ => ⟨S_, .f32⟩
  | .hbm, ⟨12, _⟩ => ⟨S8190x8190, .f32⟩
  | .hbm, ⟨13, _⟩ => ⟨S8190x8190, .f32⟩
  | .hbm, ⟨14, _⟩ => ⟨S8190x8190, .f32⟩
  | .hbm, ⟨15, _⟩ => ⟨S8190x8190, .f32⟩
  | .hbm, ⟨16, _⟩ => ⟨S_, .f32⟩
  | .hbm, ⟨17, _⟩ => ⟨S8190x8190, .f32⟩
  | .hbm, ⟨18, _⟩ => ⟨S8190x8190, .f32⟩
  | .hbm, ⟨19, _⟩ => ⟨S8190x8190, .f32⟩
  | .hbm, ⟨20, _⟩ => ⟨S8190x8190, .f32⟩
  | .hbm, ⟨21, _⟩ => ⟨S_, .f32⟩
  | .hbm, ⟨22, _⟩ => ⟨S8190x8190, .f32⟩
  | .hbm, ⟨23, _⟩ => ⟨S8190x8190, .f32⟩
  | .hbm, ⟨24, _⟩ => ⟨S8190x8190, .f32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S2, .i32⟩
  | .hbm, ⟨30, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_2 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_3 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_v19 : Ref sig .tc := ⟨.hbm, 26, rfl⟩
abbrev main_c_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Proof.Slots.lean ====
/-
# Blocks of rank-2 and rank-3 buffers

Facts about reading and writing a buffer through a rectangle given by its offsets: which elements the rectangle
covers, what a load through it reads, and what the buffer holds after a store or a copy through it. A buffer of
shape `2 × a × b` holds two slots; `lift3 V` is the contents whose every slot is `V`, so that a slot's contents
are stated as `lift3 V` on the slot's elements.
-/
module

public import proofs.«01_k».proof.KernelIdeal
public import Idealize.ShloMosaic.Lib.Tactic
public import Idealize.ShloMosaic.Lib.ValueIdx
public import Idealize.ShloMosaic.Lib.ValueLayout
public import Idealize.ShloMosaic.Lib.ViewIndex

@[expose] public section

noncomputable section

namespace Cert.Stencil

open Idealize.ShloMosaic Idealize.ShloMosaic.ValueIdx
open Idealize.ShloMosaic.TcCoe

abbrev Sh2 (a b : Nat) : Shape := ⟨2, ![a, b]⟩
abbrev Sh3 (n a b : Nat) : Shape := ⟨3, ![n, a, b]⟩

section Rects

variable {sig : RefSig} {κ : Kind} {sp : Space} {e : EltTy} {Val : EltTy → Type}

/-- Reading a view through one of its rectangles after a write through a rectangle: inside the rectangle the payload. -/
theorem read_slice_write {s : Shape} (v : View sig κ sp s e) (off sz : Fin s.rank → Nat) (inb) (f : v.ty.Contents Val)
    (w : (Rect.unit (s := s) off sz inb).shape.Idx → Val e) (i : s.Idx) :
    v.read Val ((v.slice (Rect.unit (s := s) off sz inb)).write Val f w Finset.univ) i
      = if h : ∀ a, off a ≤ (i a).val ∧ (i a).val < off a + sz a then
          w (fun a => ⟨(i a).val - off a, by have := h a; show _ < sz a; omega⟩)
        else v.read Val f i := by
  split
  · next h =>
    have hi : (Rect.unit (s := s) off sz inb).emb (fun a => ⟨(i a).val - off a, by have := h a; show _ < sz a; omega⟩) = i := by
      funext a
      apply Fin.ext
      have := h a
      show off a + 1 * ((i a).val - off a) = (i a).val
      omega
    conv_lhs => rw [← hi]
    exact View.read_slice_write_emb _ _ _ (Finset.mem_univ _)
  · next h =>
    exact View.read_slice_write_of_not_mem _ _ _ _ fun hm => h (Rect.mem_set_unit.mp ((Rect.map_emb_univ _).subset hm))

end Rects

/-! ## Contents of a two-slot buffer -/

section Lift

variable {α : Type}

/-- Both slots holding `V`. -/
def lift3 {a b : Nat} (V : (Sh2 a b).Idx → α) : (Sh3 2 a b).Idx → α := fun i => V (ix2 (i 1) (i 2))

/-- The elements of slot `s`. -/
def slotSet (a b : Nat) (s : Nat) : Finset (Sh3 2 a b).Idx := Finset.univ.filter fun i => (i 0).val = s

theorem mem_slotSet {a b s : Nat} {i : (Sh3 2 a b).Idx} : i ∈ slotSet a b s ↔ (i 0).val = s := by
  unfold slotSet; rw [Finset.mem_filter]; exact ⟨fun h => h.2, fun h => ⟨Finset.mem_univ _, h⟩⟩

/-- `V` with the block at row `r`, column `c` replaced by `w`. -/
def setBlk {a b h l : Nat} (r c : Nat) (w : (Sh3 1 h l).Idx → α) (V : (Sh2 a b).Idx → α) : (Sh2 a b).Idx → α := fun i =>
  if hh : (r ≤ (i 0).val ∧ (i 0).val < r + h) ∧ (c ≤ (i 1).val ∧ (i 1).val < c + l) then
    w (ix3 0 ⟨(i 0).val - r, by omega⟩ ⟨(i 1).val - c, by omega⟩)
  else V i

/-- The slot's rectangle covers the slot. -/
theorem unit_slot_set {a b : Nat} (s : Nat) (off : Fin 3 → Nat) (hoff : off = ![s, 0, 0]) (sz : Fin 3 → Nat) (hsz : sz = ![1, a, b]) (inb) :
    (Rect.unit (s := Sh3 2 a b) off sz inb).set = slotSet a b s := by
  subst hoff hsz
  ext i
  rw [mem_slotSet, Rect.mem_set_unit]
  constructor
  · intro h
    have := h 0
    simp only [Matrix.cons_val_zero] at this
    omega
  · intro h x
    have h1 : (i 1).val < a := (i 1).isLt
    have h2 : (i 2).val < b := (i 2).isLt
    match x with
    | ⟨0, _⟩ => exact ⟨h.ge, by show _ < s + 1; exact Nat.lt_succ_of_le h.le⟩
    | ⟨1, _⟩ => exact ⟨Nat.zero_le _, by show _ < 0 + a; rw [Nat.zero_add]; exact h1⟩
    | ⟨2, _⟩ => exact ⟨Nat.zero_le _, by show _ < 0 + b; rw [Nat.zero_add]; exact h2⟩

/-- A block inside the slot covers elements of the slot only. -/
theorem unit_blk_subset {a b : Nat} (s r c h l : Nat) (off : Fin 3 → Nat) (hoff : off = ![s, r, c]) (sz : Fin 3 → Nat) (hsz : sz = ![1, h, l]) (inb) :
    (Rect.unit (s := Sh3 2 a b) off sz inb).set ⊆ slotSet a b s := by
  subst hoff hsz
  intro i hi
  rw [mem_slotSet]
  have := (Rect.mem_set_unit).mp hi 0
  simp only [Matrix.cons_val_zero] at this
  omega

end Lift

section Blk

variable {sig : RefSig} {κ : Kind} {sp : Space} {e : EltTy} {Val : EltTy → Type}

/-- A store of `w` at `![s, r, c]` over a buffer whose slots hold `V`: slot `s` then holds `V` with that block replaced. -/
theorem read_write_blk {a b h l : Nat} (v : View sig κ sp (Sh3 2 a b) e) (s r c : Nat) (off : Fin 3 → Nat) (hoff : off = ![s, r, c])
    (inb) (f : v.ty.Contents Val) (V : (Sh2 a b).Idx → Val e) (hf : v.read Val f = lift3 V)
    (w : (Sh3 1 h l).Idx → Val e) (i : (Sh3 2 a b).Idx) (hi : i ∈ slotSet a b s) :
    v.read Val ((v.slice (Rect.unit (s := Sh3 2 a b) off ![1, h, l] inb)).write Val f w Finset.univ) i = lift3 (setBlk r c w V) i := by
  subst hoff
  rw [mem_slotSet] at hi
  rw [read_slice_write, hf]
  unfold lift3 setBlk
  by_cases hb : (r ≤ (i 1).val ∧ (i 1).val < r + h) ∧ (c ≤ (i 2).val ∧ (i 2).val < c + l)
  · refine Eq.trans (dif_pos (by
      intro x
      match x with
      | ⟨0, _⟩ => exact ⟨hi.ge, Nat.lt_succ_of_le hi.le⟩
      | ⟨1, _⟩ => exact hb.1
      | ⟨2, _⟩ => exact hb.2)) (Eq.trans ?_ (dif_pos hb).symm)
    congr 1
    funext x
    match x with
    | ⟨0, _⟩ => apply Fin.ext; show (i 0).val - s = 0; omega
    | ⟨1, _⟩ => rfl
    | ⟨2, _⟩ => rfl
  · refine (dif_neg (fun hx => hb ⟨hx 1, hx 2⟩)).trans (Eq.symm ?_)
    exact dif_neg hb

/-- A load at `![s, r, c]` of a buffer whose slots hold `V`. -/
theorem readAt_blk {a b h l : Nat} (v : View sig κ sp (Sh3 2 a b) e) (s r c : Nat) (off : Fin 3 → Nat) (hoff : off = ![s, r, c])
    (inb) (f : v.ty.Contents Val) (V : (Sh2 a b).Idx → Val e) (hf : v.read Val f = lift3 V)
    (hr : r + h ≤ a) (hc : c + l ≤ b) :
    v.readAt Val (Rect.unit (s := Sh3 2 a b) off ![1, h, l] inb).toLoadRect f
      = (fun i => V (ix2 ⟨r + (i 1).val, by have : (i 1).val < h := (i 1).isLt; omega⟩ ⟨c + (i 2).val, by have : (i 2).val < l := (i 2).isLt; omega⟩) : (Sh3 1 h l).Idx → Val e) := by
  subst hoff
  funext i
  rw [View.readAt_apply, hf]
  unfold lift3
  congr 1
  funext x
  match x with
  | ⟨0, _⟩ => apply Fin.ext; show r + 1 * (i 1).val = _; rw [Nat.one_mul]
  | ⟨1, _⟩ => apply Fin.ext; show c + 1 * (i 2).val = _; rw [Nat.one_mul]

end Blk

end Cert.Stencil

end
-- ==== Proof.Proto.lean ====
/-
# The protocol between the devices

The four devices form a 2 × 2 mesh; `px c` is the device in the other mesh row, `py c` the one in the other mesh column.
Each device hands each of the two peers one piece of its block of `x` — its boundary row to `px c`, its boundary column to
`py c` — and receives the same from them. The semaphores that another device touches:

* the barrier cell, waited for 2 by its own device: `px c` signals one unit (duty `false`) and hands over its landing row
  together with the fact that its row receive cell is at round 0; `py c` signals one unit (duty `true`) and hands over its
  landing column likewise. So no copy is started into a peer's buffer before that peer has given it away.
* the two receive cells (`rRow`, `rCol`), each completed once by the peer's copy: the landing hands over the landing buffer
  with the peer's boundary row (column) in it.
* the two send cells (`sRow`, `sCol`), completed once by the device's own copy: the row's source is lent from `x` at a share
  that is not needed again, the column's is the scratch column, handed back.
-/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Slots
public import Idealize.ShloMosaic.Lib.Pipeline.Launch
public import Idealize.ShloMosaic.Lib.Pipeline.Kit
public import Idealize.ShloMosaic.Lib.MixedBatch
public import Idealize.ShloMosaic.Lib.Tactic

@[expose] public section

noncomputable section

namespace Cert.Stencil

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

/-! ## The resource algebra -/

/-- The pipeline library's rounds, the devices' own rounds (duties named by `Bool`) and the local transfers' counters. -/
abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR
instance ER_landsIn : (ER : Emb UB 𝕄).LandsIn (upEmb : UEmb _ 𝕄) := by unfold ER; infer_instance
abbrev EC : UEmb Counters (MT nD τ sig Unit (Elt F) ℕ UU ℕ) := countersEmb

abbrev 𝒱₀ : Variants := Variants.none

/-! ## The mesh -/

set_option backward.proofsInPublic true in
/-- The device in the same mesh column and the other mesh row; -/
def px (c : Dev nD) : Dev nD := ⟨((c.val % 2) + 2) - 2 * (c.val / 2), by revert c; decide⟩
set_option backward.proofsInPublic true in
/-- in the same mesh row and the other mesh column. -/
def py (c : Dev nD) : Dev nD := ⟨(2 * (c.val / 2) + 1) - (c.val % 2), by revert c; decide⟩

theorem px_px (c : Dev nD) : px (px c) = c := by revert c; decide
theorem py_py (c : Dev nD) : py (py c) = c := by revert c; decide

theorem dev1_eq (c : Dev nD) (h) : (⟨k0_dev1 c, h⟩ : Dev nD) = px c := Fin.ext (k0_dev1_eq c)
theorem dev2_eq (c : Dev nD) (h) : (⟨k0_dev2 c, h⟩ : Dev nD) = py c := Fin.ext (k0_dev2_eq c)
theorem dev3_eq (c : Dev nD) (h) : (⟨k0_dev3 c, h⟩ : Dev nD) = px c := Fin.ext (k0_dev3_eq c)
theorem dev4_eq (c : Dev nD) (h) : (⟨k0_dev4 c, h⟩ : Dev nD) = py c := Fin.ext (k0_dev4_eq c)

def swapX : Dev nD ≃ Dev nD := ⟨px, px, px_px, px_px⟩
def swapY : Dev nD ≃ Dev nD := ⟨py, py, py_py, py_py⟩

/-- The row of its block that device `c` sends, and the column. -/
def rowIdx (c : Dev nD) : Fin 4096 := if c.val / 2 = 0 then 4095 else 0
def colIdx (c : Dev nD) : Fin 4096 := if c.val % 2 = 0 then 4095 else 0

/-! ## Memrefs and semaphores -/

abbrev xM : Memref sig .tc .hbm S4096x4096 .f32 := Memref.whole main_arg0
abbrev oM : Memref sig .tc .hbm S4096x4096 .f32 := Memref.whole main_v1
abbrev vbM : Memref sig .tc .vmem S2x512x4096 .f32 := Memref.whole cc0_scratch0
abbrev obM : Memref sig .tc .vmem S2x512x4096 .f32 := Memref.whole cc0_scratch1
abbrev trM : Memref sig .tc .vmem S2x1x4096 .f32 := Memref.whole cc0_scratch2
abbrev brM : Memref sig .tc .vmem S2x1x4096 .f32 := Memref.whole cc0_scratch3
abbrev rrM : Memref sig .tc .vmem S1x4096 .f32 := Memref.whole cc0_scratch4
abbrev cbM : Memref sig .tc .vmem S4096x128 .f32 := Memref.whole cc0_scratch5
abbrev scM : Memref sig .tc .vmem S4096x1 .f32 := Memref.whole cc0_scratch6
abbrev rcM : Memref sig .tc .vmem S4096x1 .f32 := Memref.whole cc0_scratch7

abbrev barS : Sem sig := (SemArray.scalar (sig.barrier 0 rfl) : Sems sig S_).sem
abbrev sRowS : DmaSem sig := (0 : Fin 11)
abbrev sColS : DmaSem sig := (1 : Fin 11)
abbrev rRowS : DmaSem sig := (2 : Fin 11)
abbrev rColS : DmaSem sig := (3 : Fin 11)
/-- The input slots' semaphores and the output slots', by trip number; -/
def sIn (k : ℕ) : DmaSem sig := (⟨4 + k % 2, by omega⟩ : Fin 11)
def sOut (k : ℕ) : DmaSem sig := (⟨6 + k % 2, by omega⟩ : Fin 11)
/-- the column block's, and the two on which the received row is copied. -/
abbrev sCB : DmaSem sig := (8 : Fin 11)
abbrev sH0 : DmaSem sig := (9 : Fin 11)
abbrev sH1 : DmaSem sig := (10 : Fin 11)

theorem sIn_add_two (k : ℕ) : sIn (k + 2) = sIn k := by unfold sIn; simp only [Nat.add_mod_right]
theorem sOut_add_two (k : ℕ) : sOut (k + 2) = sOut k := by unfold sOut; simp only [Nat.add_mod_right]

theorem slot_inb (u : Fin 2) : ∀ a, (![u.val] : Fin 1 → ℕ) a + S1.size a ≤ S2.size a := by revert u; decide
theorem sem_in' (u : Fin 2) :
    ((cc0_scratch10.slice (Rect.unit (s := S2) ![u.val] S1.size (slot_inb u))).squeeze S_ squeezes_S1_S_).sem
      = (⟨4 + u.val, by omega⟩ : Fin 11) := by
  revert u; decide
theorem sem_out' (u : Fin 2) :
    ((cc0_scratch11.slice (Rect.unit (s := S2) ![u.val] S1.size (slot_inb u))).squeeze S_ squeezes_S1_S_).sem
      = (⟨6 + u.val, by omega⟩ : Fin 11) := by
  revert u; decide
theorem sem_in (off : Fin 1 → ℕ) (k : ℕ) (h : off = ![k % 2]) (inb) :
    ((cc0_scratch10.slice (Rect.unit (s := S2) off S1.size inb)).squeeze S_ squeezes_S1_S_).sem = sIn k := by
  subst h; exact sem_in' ⟨k % 2, Nat.mod_lt _ (by decide)⟩
theorem sem_out (off : Fin 1 → ℕ) (k : ℕ) (h : off = ![k % 2]) (inb) :
    ((cc0_scratch11.slice (Rect.unit (s := S2) off S1.size inb)).squeeze S_ squeezes_S1_S_).sem = sOut k := by
  subst h; exact sem_out' ⟨k % 2, Nat.mod_lt _ (by decide)⟩

abbrev barCell (c : Dev nD) : GSem nD τ sig := ((c : Thread nD τ), .reg barS)
abbrev dCell (s : DmaSem sig) (c : Dev nD) : GSem nD τ sig := ((c : Thread nD τ), .dma s)

abbrev Nr : ℕ := rrM.view.dmaCredit
abbrev Nc : ℕ := rcM.view.dmaCredit
theorem Nr_pos : 0 < Nr := View.dmaCredit_pos _ (by decide)
theorem Nc_pos : 0 < Nc := View.dmaCredit_pos _ (by decide)

/-! ## Contents -/

/-- A device's block of `x`. -/
abbrev Blk (F : FTy → Type) : Type := S4096x4096.Idx → Elt F .f32

variable (X : Dev nD → Blk F)

/-- The row device `c` sends, and the column; -/
def rowOf (c : Dev nD) : S1x4096.Idx → Elt F .f32 := fun i => X c (ix2 (rowIdx c) (i 1))
def colOf (c : Dev nD) : S4096x1.Idx → Elt F .f32 := fun i => X c (ix2 (i 0) (colIdx c))
/-- the ones it receives. -/
def rowIn (c : Dev nD) : S1x4096.Idx → Elt F .f32 := rowOf X (px c)
def colIn (c : Dev nD) : S4096x1.Idx → Elt F .f32 := colOf X (py c)

def rrPts (c : Dev nD) (f : S1x4096.Idx → Elt F .f32) : sProp 𝕄 := ((c : Thread nD τ).loc cc0_scratch4) ↦{fullShare} f
def scPts (c : Dev nD) (f : S4096x1.Idx → Elt F .f32) : sProp 𝕄 := ((c : Thread nD τ).loc cc0_scratch6) ↦{fullShare} f
def rcPts (c : Dev nD) (f : S4096x1.Idx → Elt F .f32) : sProp 𝕄 := ((c : Thread nD τ).loc cc0_scratch7) ↦{fullShare} f

instance rrPts_storable (c : Dev nD) (f) : BI.Storable (upEmb : UEmb _ 𝕄) (rrPts (F := F) c f) := by unfold rrPts; infer_instance
instance scPts_storable (c : Dev nD) (f) : BI.Storable (upEmb : UEmb _ 𝕄) (scPts (F := F) c f) := by unfold scPts; infer_instance
instance rcPts_storable (c : Dev nD) (f) : BI.Storable (upEmb : UEmb _ 𝕄) (rcPts (F := F) c f) := by unfold rcPts; infer_instance

/-! ## The schedule -/

/-- What `px c`'s signal hands device `c`, and what `py c`'s does. -/
def barPayX (c : Dev nD) : sProp 𝕄 := iprop((∃ f, rrPts (px c) f) ∗ reached ER (dCell rRowS (px c)) 0)
def barPayY (c : Dev nD) : sProp 𝕄 := iprop((∃ f, rcPts (py c) f) ∗ reached ER (dCell rColS (py c)) 0)

abbrev IsBar (g : GSem nD τ sig) : Prop := g.1.2 = .tc ∧ g.2 = .reg barS
abbrev IsXfer (g : GSem nD τ sig) : Prop :=
  g.1.2 = .tc ∧ (g.2 = .dma sRowS ∨ g.2 = .dma sColS ∨ g.2 = .dma rRowS ∨ g.2 = .dma rColS)

/-- One round: a barrier cell has two duties of one unit, a send or receive cell the one duty of its copy's credit. -/
def sched : Rounds.Schedule (GSem nD τ sig) Bool 𝕄 where
  duties g r := if r = 0 ∧ IsBar g then Finset.univ else if r = 0 ∧ IsXfer g then {false} else ∅
  unitless _ := False
  amount g _ _ := if g.2 = .reg barS then 1 else if g.2 = .dma sRowS ∨ g.2 = .dma rRowS then Nr else Nc
  payload g _ d :=
    if g.2 = .reg barS then (if d then barPayY g.1.1 else barPayX g.1.1)
    else if g.2 = .dma rRowS then rrPts g.1.1 (rowIn X g.1.1)
    else if g.2 = .dma rColS then rcPts g.1.1 (colIn X g.1.1)
    else if g.2 = .dma sColS then scPts g.1.1 (colOf X g.1.1)
    else iprop(emp)
  amount_pos g _ _ _ := by
    split
    · exact Nat.one_pos
    · split
      · exact Nr_pos
      · exact Nc_pos

instance sched_payload_storable (g : GSem nD τ sig) (r : ℕ) (d : Bool) :
    BI.Storable (upEmb : UEmb _ 𝕄) ((sched (F := F) X).payload g r d) := by
  show BI.Storable upEmb (if g.2 = .reg barS then (if d then barPayY g.1.1 else barPayX g.1.1)
    else if g.2 = .dma rRowS then rrPts g.1.1 (rowIn X g.1.1)
    else if g.2 = .dma rColS then rcPts g.1.1 (colIn X g.1.1)
    else if g.2 = .dma sColS then scPts g.1.1 (colOf X g.1.1)
    else iprop(emp))
  unfold barPayX barPayY
  (repeat' split) <;> infer_instance

section Sched
variable (c : Dev nD)

theorem dma_ne_bar (s : DmaSem sig) : (SemLoc.dma s : SemLoc sig) ≠ .reg barS := fun h => by cases h

theorem duties_bar : (sched (F := F) X).duties (barCell c) 0 = Finset.univ := by dsimp only [sched]; exact if_pos ⟨rfl, rfl, rfl⟩
theorem duties_xfer (s : DmaSem sig) (hs : s = sRowS ∨ s = sColS ∨ s = rRowS ∨ s = rColS) : (sched (F := F) X).duties (dCell s c) 0 = {false} := by
  dsimp only [sched]
  rw [if_neg (fun h => dma_ne_bar s h.2.2)]
  refine if_pos ⟨rfl, rfl, ?_⟩
  rcases hs with rfl | rfl | rfl | rfl
  · exact .inl rfl
  · exact .inr (.inl rfl)
  · exact .inr (.inr (.inl rfl))
  · exact .inr (.inr (.inr rfl))
theorem duties_later (g : GSem nD τ sig) : ∀ r, 1 ≤ r → (sched (F := F) X).duties g r = ∅ :=
  fun r hr => by dsimp only [sched]; rw [if_neg fun h => by omega, if_neg fun h => by omega]

theorem amount_bar (d : Bool) : (sched (F := F) X).amount (barCell c) 0 d = 1 := by dsimp only [sched]; exact if_pos rfl
theorem amount_row (s : DmaSem sig) (hs : s = sRowS ∨ s = rRowS) (d : Bool) : (sched (F := F) X).amount (dCell s c) 0 d = Nr := by
  dsimp only [sched]
  rw [if_neg (dma_ne_bar s)]
  exact if_pos (hs.imp (congrArg _) (congrArg _))
theorem amount_col (s : DmaSem sig) (hs : s = sColS ∨ s = rColS) (d : Bool) : (sched (F := F) X).amount (dCell s c) 0 d = Nc := by
  dsimp only [sched]
  rw [if_neg (dma_ne_bar s)]
  refine if_neg ?_
  rcases hs with rfl | rfl <;> decide

theorem expect_bar : (sched (F := F) X).expect (barCell c) 0 = 2 := by
  unfold Schedule.expect Schedule.amountOf
  rw [duties_bar, Finset.sum_congr rfl fun d _ => amount_bar X c d, Finset.sum_const, Finset.card_univ, Fintype.card_bool, smul_eq_mul]
theorem expect_row (s : DmaSem sig) (hs : s = sRowS ∨ s = rRowS) : (sched (F := F) X).expect (dCell s c) 0 = Nr := by
  unfold Schedule.expect Schedule.amountOf
  rw [duties_xfer X c s (hs.elim .inl fun h => .inr (.inr (.inl h))), Finset.sum_singleton, amount_row X c s hs]
theorem expect_col (s : DmaSem sig) (hs : s = sColS ∨ s = rColS) : (sched (F := F) X).expect (dCell s c) 0 = Nc := by
  unfold Schedule.expect Schedule.amountOf
  rw [duties_xfer X c s (hs.elim (fun h => .inr (.inl h)) fun h => .inr (.inr (.inr h))), Finset.sum_singleton, amount_col X c s hs]

theorem payload_bar_true : (sched (F := F) X).payload (barCell c) 0 true = barPayY c := by dsimp only [sched]; rw [if_pos rfl, if_pos rfl]
theorem payload_bar_false : (sched (F := F) X).payload (barCell c) 0 false = barPayX c := by
  dsimp only [sched]; rw [if_pos rfl]; exact if_neg Bool.false_ne_true
theorem payload_rRow (d : Bool) : (sched (F := F) X).payload (dCell rRowS c) 0 d = rrPts c (rowIn X c) := by
  dsimp only [sched]; rw [if_neg (dma_ne_bar _), if_pos rfl]
theorem payload_rCol (d : Bool) : (sched (F := F) X).payload (dCell rColS c) 0 d = rcPts c (colIn X c) := by
  dsimp only [sched]; rw [if_neg (dma_ne_bar _), if_neg (by decide), if_pos rfl]
theorem payload_sCol (d : Bool) : (sched (F := F) X).payload (dCell sColS c) 0 d = scPts c (colOf X c) := by
  dsimp only [sched]; rw [if_neg (dma_ne_bar _), if_neg (by decide), if_neg (by decide), if_pos rfl]
theorem payload_sRow (d : Bool) : (sched (F := F) X).payload (dCell sRowS c) 0 d = iprop(emp) := by
  dsimp only [sched]; rw [if_neg (dma_ne_bar _), if_neg (by decide), if_neg (by decide), if_neg (by decide)]

theorem rest_bar : bigSep ((sched (F := F) X).duties (barCell c) 0 \ ∅) (fun d => (sched (F := F) X).payload (barCell c) 0 d)
    = iprop(barPayX c ∗ barPayY c) := by
  rw [Finset.sdiff_empty, duties_bar, bigSep_univ_eq_bigSepL [false, true] (by decide) (by decide), bigSepL_cons_cons, bigSepL_singleton,
    payload_bar_false, payload_bar_true]
  rfl
theorem rest_xfer (s : DmaSem sig) (hs : s = sRowS ∨ s = sColS ∨ s = rRowS ∨ s = rColS) :
    bigSep ((sched (F := F) X).duties (dCell s c) 0 \ ∅) (fun d => (sched (F := F) X).payload (dCell s c) 0 d)
    = (sched (F := F) X).payload (dCell s c) 0 false := by
  rw [Finset.sdiff_empty, duties_xfer X c s hs, bigSep_singleton]

end Sched

/-! ## What each core owes at launch; the levels -/

/-- What is owed after both signals: the two copies' credits; after the first; at launch. -/
def O₂ (c : Dev nD) : CellTallies nD τ sig Unit := tallyAt (dCell rColS (py c)) () Nc + tallyAt (dCell rRowS (px c)) () Nr
def O₁ (c : Dev nD) : CellTallies nD τ sig Unit := O₂ c + tallyAt (barCell (py c)) () 1
def O₀ (c : Dev nD) : CellTallies nD τ sig Unit := O₁ c + tallyAt (barCell (px c)) () 1

def L (g : GSem nD τ sig) : Finset Unit := if g.1.2 = .tc then {()} else ∅
/-- The receive cells above the barrier cells above everything else. -/
def lv (g : GSem nD τ sig) (_ : Unit) : ℕ := if g.2 = .reg barS then 1 else if g.2 = .dma rRowS ∨ g.2 = .dma rColS then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₂_pos {c : Dev nD} {g : GSem nD τ sig} {u : Unit} (h : 0 < O₂ c g u) :
    g = dCell rColS (py c) ∨ g = dCell rRowS (px c) := by
  unfold O₂ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

theorem lv_bar (c : Dev nD) (u : Unit) : lv (barCell c) u = 1 := by dsimp only [lv]; exact if_pos rfl
theorem lv_rRow (c : Dev nD) (u : Unit) : lv (dCell rRowS c) u = 2 := by
  dsimp only [lv]; rw [if_neg (dma_ne_bar _)]; exact if_pos (.inl rfl)
theorem lv_rCol (c : Dev nD) (u : Unit) : lv (dCell rColS c) u = 2 := by
  dsimp only [lv]; rw [if_neg (dma_ne_bar _)]; exact if_pos (.inr rfl)

/-- At its barrier wait a device owes the two receive credits only, above its barrier cell. -/
theorem mayWait_bar (c : Dev nD) : (levAts L lv : sProp 𝕄) ⊢ MayWait (c : Thread nD τ) (.reg barS) () (O₂ c) :=
  MayOwe.of_cut (L := L) (lev := lv) 1 (fun p hp => by rw [Finset.mem_singleton.mp hp, L_tc]; exact Finset.mem_singleton_self _)
    (fun g u hg => by rcases O₂_pos hg with rfl | rfl <;> exact Finset.mem_singleton_self _)
    (fun p hp => by rw [Finset.mem_singleton.mp hp]; exact (lv_bar c ()).le)
    (fun g u hg => by
      rcases O₂_pos hg with rfl | rfl
      · rw [lv_rCol]; decide
      · rw [lv_rRow]; decide)

/-- At the column block's wait it still owes the column copy's credit, above the waited cell. -/
theorem mayWait_colblk (c : Dev nD) : (levAts L lv : sProp 𝕄) ⊢ MayWait (c : Thread nD τ) (.dma sCB) () (tallyAt (dCell rColS (py c)) () Nc) :=
  MayOwe.of_cut (L := L) (lev := lv) 0 (fun p hp => by rw [Finset.mem_singleton.mp hp, L_tc]; exact Finset.mem_singleton_self _)
    (fun g u hg => by
      rw [tallyAt_apply] at hg
      by_cases h : g = dCell rColS (py c) ∧ u = ()
      · rw [h.1, L_tc]; exact Finset.mem_singleton_self _
      · rw [if_neg h] at hg; exact absurd hg (Nat.lt_irrefl 0))
    (fun p hp => by
      rw [Finset.mem_singleton.mp hp]; dsimp only [lv]
      rw [if_neg (dma_ne_bar _), if_neg (by decide)])
    (fun g u hg => by
      rw [tallyAt_apply] at hg
      by_cases h : g = dCell rColS (py c) ∧ u = ()
      · rw [h.1, lv_rCol]; decide
      · rw [if_neg h] at hg; exact absurd hg (Nat.lt_irrefl 0))

/-! ## The devices' ghost state -/

/-- The five protocol cells of a device: barrier, row send, row receive, column send, column receive. -/
abbrev csem : Fin 5 → SemLoc sig := fun | 0 => .reg barS | 1 => .dma sRowS | 2 => .dma rRowS | 3 => .dma sColS | 4 => .dma rColS
abbrev kcell (ck : Dev nD × Fin 5) : GSem nD τ sig := ((ck.1 : Thread nD τ), csem ck.2)

/-- The cells' invariants device `c` opens: its own five, the peers' barrier cells, the receive cells it copies onto. -/
def invs (K : Dev nD × Fin 5 → ℕ) (c : Dev nD) : sProp 𝕄 :=
  iprop(cellInv ER (sched X) (K (c, 0)) (barCell c)
    ∗ cellInv ER (sched X) (K (c, 1)) (dCell sRowS c) ∗ cellInv ER (sched X) (K (c, 2)) (dCell rRowS c)
    ∗ cellInv ER (sched X) (K (c, 3)) (dCell sColS c) ∗ cellInv ER (sched X) (K (c, 4)) (dCell rColS c)
    ∗ cellInv ER (sched X) (K (px c, 0)) (barCell (px c)) ∗ cellInv ER (sched X) (K (py c, 0)) (barCell (py c))
    ∗ cellInv ER (sched X) (K (px c, 2)) (dCell rRowS (px c)) ∗ cellInv ER (sched X) (K (py c, 4)) (dCell rColS (py c)))

instance invs_persistent (K : Dev nD × Fin 5 → ℕ) (c : Dev nD) : BI.Persistent (invs X K c) := by unfold invs; infer_instance

/-- The reached-marks it needs. -/
def marks (c : Dev nD) : sProp 𝕄 :=
  iprop(reached ER (barCell (px c)) 0 ∗ reached ER (barCell (py c)) 0
    ∗ reached ER (dCell sRowS c) 0 ∗ reached ER (dCell rRowS c) 0 ∗ reached ER (dCell sColS c) 0 ∗ reached ER (dCell rColS c) 0
    ∗ reached ER (dCell rRowS (px c)) 0 ∗ reached ER (dCell rColS (py c)) 0)

instance marks_persistent (c : Dev nD) : BI.Persistent (marks (F := F) c) := by unfold marks; infer_instance

/-- Its positions at round 0 of its five cells. -/
def poss (c : Dev nD) : sProp 𝕄 :=
  iprop(atPos ER (barCell c) 0 ∅ 0 ∗ atPos ER (dCell sRowS c) 0 ∅ 0 ∗ atPos ER (dCell rRowS c) 0 ∅ 0
    ∗ atPos ER (dCell sColS c) 0 ∅ 0 ∗ atPos ER (dCell rColS c) 0 ∅ 0)

/-- The tokens of the duties it pays. -/
def payToks (c : Dev nD) : sProp 𝕄 :=
  iprop(dutyTok ER (barCell (px c)) 0 false ∗ dutyTok ER (barCell (py c)) 0 true
    ∗ dutyTok ER (dCell sRowS c) 0 false ∗ dutyTok ER (dCell rRowS (px c)) 0 false
    ∗ dutyTok ER (dCell sColS c) 0 false ∗ dutyTok ER (dCell rColS (py c)) 0 false)

def ghost (K : Dev nD × Fin 5 → ℕ) (c : Dev nD) : sProp 𝕄 := iprop(invs X K c ∗ marks c ∗ poss c ∗ payToks c)

/-- What device `c`'s body starts from, but for its buffers. -/
def start (c : Dev nD) : sProp 𝕄 :=
  iprop((∃ K, ghost X K c) ∗ cred (tallyAt (barCell c) () 2) ∗ cred (tallyAt (dCell rRowS c) () Nr)
    ∗ cred (tallyAt (dCell rColS c) () Nc) ∗ levAts L lv)

end Cert.Stencil

end
-- ==== Proof.Steps.lean ====
/-
# One step of the body at a time

What a slot of a double buffer, a piece of `x` and a piece of the output are, and one lemma for each kind of memory
operation of the body, at offsets and semaphores given by equations.
-/
module

public import proofs.«01_k».proof.Proof.Proto

@[expose] public section

noncomputable section

namespace Cert.Stencil

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]
local notation "𝕄" => MT nD τ sig Unit (Elt F) ℕ UU ℕ

variable (X : Dev nD → Blk F)

/-! ## Slots and pieces -/

/-- A slot of a double buffer as the copies name it. -/
abbrev slot {a b : ℕ} (M : Memref sig .tc .vmem (Sh3 2 a b) .f32) (off : Fin 3 → ℕ)
    (inb : ∀ x, off x + (![1, a, b] : Fin 3 → ℕ) x ≤ (Sh3 2 a b).size x) (sq : (Sh3 1 a b).Squeezes (Sh2 a b)) :
    Memref sig .tc .vmem (Sh2 a b) .f32 :=
  (M.slice (Rect.unit (s := Sh3 2 a b) off ![1, a, b] inb) (fun _ => rfl)).squeeze (Sh2 a b) sq

/-- A slot reads the contents `V` of a buffer whose slots hold `V`. -/
theorem slot_read {a b : ℕ} (M : Memref sig .tc .vmem (Sh3 2 a b) .f32) (s : ℕ) (off : Fin 3 → ℕ) (hoff : off = ![s, 0, 0]) (inb) (sq)
    (f : M.view.ty.Contents (Elt F)) (V : (Sh2 a b).Idx → Elt F .f32) (hf : M.view.read (Elt F) f = lift3 V) :
    (slot M off inb sq).view.read (Elt F) f = V := by
  have hc : (Sh3 1 a b).ShapeCasts (Sh2 a b) := sq.numel_eq
  refine (Memref.read_squeeze_slice M (Rect.unit (s := Sh3 2 a b) off ![1, a, b] inb) (fun _ => rfl) sq hc f).trans ?_
  rw [readAt_blk M.view s 0 0 off hoff inb f V hf (by omega) (by omega)]
  funext i
  rw [eq_ix2 i]
  refine (shapeCast_1ab_ab_apply _ _ _ _).trans ?_
  congr 1
  funext x
  match x with
  | ⟨0, _⟩ => apply Fin.ext; exact Nat.zero_add _
  | ⟨1, _⟩ => apply Fin.ext; exact Nat.zero_add _

/-- A view written with what `g` reads there agrees with `g` on the view's elements. -/
theorem write_eq_of_read {sp : Space} {s : Shape} {e : EltTy} (v : View sig .tc sp s e) (f g : v.ty.Contents (Elt F)) (w : s.Idx → Elt F e)
    (h : v.read (Elt F) g = w) : ∀ i ∈ v.set, v.write (Elt F) f w Finset.univ i = g i := by
  intro i hi
  obtain ⟨x, -, rfl⟩ := Finset.mem_map.mp hi
  rw [View.write_emb_of_mem _ _ (Finset.mem_univ x), ← h, View.read_apply]
  simp

variable (c : Dev nD)

/-- Slot `k % 2` of the input, output, upper-halo and lower-halo buffers, holding `V`. -/
def vPts (k : ℕ) (V : S512x4096.Idx → Elt F .f32) : sProp 𝕄 :=
  ((c : Thread nD τ).loc cc0_scratch0) ↦[slotSet 512 4096 (k % 2)]{fullShare} (lift3 V)
def oPts (k : ℕ) (V : S512x4096.Idx → Elt F .f32) : sProp 𝕄 :=
  ((c : Thread nD τ).loc cc0_scratch1) ↦[slotSet 512 4096 (k % 2)]{fullShare} (lift3 V)
def tPts (k : ℕ) (V : S1x4096.Idx → Elt F .f32) : sProp 𝕄 :=
  ((c : Thread nD τ).loc cc0_scratch2) ↦[slotSet 1 4096 (k % 2)]{fullShare} (lift3 V)
def bPts (k : ℕ) (V : S1x4096.Idx → Elt F .f32) : sProp 𝕄 :=
  ((c : Thread nD τ).loc cc0_scratch3) ↦[slotSet 1 4096 (k % 2)]{fullShare} (lift3 V)

instance vPts_storable (k V) : BI.Storable (upEmb : UEmb _ 𝕄) (vPts (F := F) c k V) := by unfold vPts; infer_instance
instance oPts_storable (k V) : BI.Storable (upEmb : UEmb _ 𝕄) (oPts (F := F) c k V) := by unfold oPts; infer_instance
instance tPts_storable (k V) : BI.Storable (upEmb : UEmb _ 𝕄) (tPts (F := F) c k V) := by unfold tPts; infer_instance
instance bPts_storable (k V) : BI.Storable (upEmb : UEmb _ 𝕄) (bPts (F := F) c k V) := by unfold bPts; infer_instance

/-- The device's block of `x`, read only: some share of it. -/
def xAny : sProp 𝕄 := iprop(∃ q : PosShare TreeShare, ((c : Thread nD τ).loc main_arg0) ↦{q} (X c))

/-- Rows `lo … hi - 1` of the output, holding `g` there. -/
def rowsSet (lo hi : ℕ) : Finset S4096x4096.Idx := Finset.univ.filter fun i => lo ≤ (i 0).val ∧ (i 0).val < hi
theorem mem_rowsSet {lo hi : ℕ} {i : S4096x4096.Idx} : i ∈ rowsSet lo hi ↔ lo ≤ (i 0).val ∧ (i 0).val < hi := by
  unfold rowsSet; rw [Finset.mem_filter]; exact ⟨fun h => h.2, fun h => ⟨Finset.mem_univ _, h⟩⟩
def oReg (lo hi : ℕ) (g : Blk F) : sProp 𝕄 := ((c : Thread nD τ).loc main_v1) ↦[rowsSet lo hi]{fullShare} g

instance oReg_storable (lo hi g) : BI.Storable (upEmb : UEmb _ 𝕄) (oReg (F := F) c lo hi g) := by unfold oReg; infer_instance

theorem oReg_split (lo mid hi : ℕ) (h1 : lo ≤ mid) (h2 : mid ≤ hi) (g : Blk F) :
    oReg c lo hi g ⊢ iprop(oReg c lo mid g ∗ oReg c mid hi g) := by
  unfold oReg
  have hs : rowsSet lo hi = rowsSet lo mid ∪ rowsSet mid hi := by
    ext i; rw [Finset.mem_union, mem_rowsSet, mem_rowsSet, mem_rowsSet]; omega
  have hd : Disjoint (rowsSet lo mid) (rowsSet mid hi) := by
    rw [Finset.disjoint_left]; intro i; rw [mem_rowsSet, mem_rowsSet]; omega
  rw [hs]
  exact (pointsTo_union hd).1

theorem oReg_join (lo mid hi : ℕ) (h1 : lo ≤ mid) (h2 : mid ≤ hi) (g : Blk F) :
    iprop(oReg c lo mid g ∗ oReg c mid hi g) ⊢ oReg c lo hi g := by
  unfold oReg
  have hs : rowsSet lo hi = rowsSet lo mid ∪ rowsSet mid hi := by
    ext i; rw [Finset.mem_union, mem_rowsSet, mem_rowsSet, mem_rowsSet]; omega
  have hd : Disjoint (rowsSet lo mid) (rowsSet mid hi) := by
    rw [Finset.disjoint_left]; intro i; rw [mem_rowsSet, mem_rowsSet]; omega
  rw [hs]
  exact (pointsTo_union hd).2

/-! ## What the chunks are -/

/-- Element `j` of row `r` of the block. -/
def xRow (r : ℕ) (j : Fin 4096) : Elt F .f32 := X c (ix2 ⟨r % 4096, Nat.mod_lt _ (by decide)⟩ j)

/-- Chunk `k`, the row above it and the row below it. -/
def xv (k : ℕ) : S512x4096.Idx → Elt F .f32 := fun i => xRow X c (512 * k + (i 0).val) (i 1)
def xt (k : ℕ) : S1x4096.Idx → Elt F .f32 := if k = 0 then rowIn X c else fun i => xRow X c (512 * k - 1) (i 1)
def xb (k : ℕ) : S1x4096.Idx → Elt F .f32 := if k = 7 then rowIn X c else fun i => xRow X c (512 * (k + 1)) (i 1)

/-- What a rectangle of the block reads. -/
theorem x_read (h l r cc : ℕ) (off : Fin 2 → ℕ) (hoff : off = ![r, cc]) (inb) (hs) (i : (Sh2 h l).Idx) (hb : cc + (i 1).val < 4096) :
    (xM.slice (Rect.unit (s := S4096x4096) off ![h, l] inb) hs).view.read (Elt F) (X c) i = xRow X c (r + (i 0).val) ⟨cc + (i 1).val, hb⟩ := by
  subst hoff
  unfold xRow
  have h0 : r + (i 0).val < 4096 := by
    have h1 := inb 0
    have h2 : (i 0).val < h := (i 0).isLt
    have h3 : r + h ≤ 4096 := h1
    omega
  show X c _ = X c _
  congr 1
  funext x
  match x with
  | ⟨0, _⟩ => apply Fin.ext; show r + 1 * (i 0).val = (r + (i 0).val) % 4096; rw [Nat.mod_eq_of_lt h0, Nat.one_mul]
  | ⟨1, _⟩ => apply Fin.ext; show cc + 1 * (i 1).val = _; rw [Nat.one_mul]

/-! ## The credits of the local copies -/

abbrev Nv : ℕ := sig.dmaCredit .tc (Kind.tc.table .vmem) vbM.view.buf S512x4096 .f32
abbrev Nt : ℕ := sig.dmaCredit .tc (Kind.tc.table .vmem) trM.view.buf S1x4096 .f32
abbrev Nb : ℕ := sig.dmaCredit .tc (Kind.tc.table .vmem) brM.view.buf S1x4096 .f32
abbrev No : ℕ := sig.dmaCredit .tc (Kind.tc.table .hbm) oM.view.buf S512x4096 .f32
theorem Nv_pos : 0 < Nv := sig.dmaCredit_pos _ _ _ _ _ (by decide)
theorem Nt_pos : 0 < Nt := sig.dmaCredit_pos _ _ _ _ _ (by decide)
theorem Nb_pos : 0 < Nb := sig.dmaCredit_pos _ _ _ _ _ (by decide)
theorem No_pos : 0 < No := sig.dmaCredit_pos _ _ _ _ _ (by decide)

/-! ## Copies in -/

/-- A piece of `x` can be lent at some share, and `x` is still there to read. -/
theorem lend_x {h l : ℕ} {src : Memref sig .tc .hbm (Sh2 h l) .f32} {off : Fin 2 → ℕ} {inb} {hs}
    (hsrc : src = xM.slice (Rect.unit (s := S4096x4096) off ![h, l] inb) hs) {w : (Sh2 h l).Idx → Elt F .f32}
    (hw : (xM.slice (Rect.unit (s := S4096x4096) off ![h, l] inb) hs).view.read (Elt F) (X c) = w) :
    xAny X c ⊢ iprop(∃ q : PosShare TreeShare, ∃ fs : Buf (Elt F) (src.view.loc (c : Thread nD τ)), ⌜src.view.read (Elt F) fs = w⌝
      ∗ ((src.view.loc (c : Thread nD τ)) ↦[src.view.set]{q} fs) ∗ xAny X c) := by
  subst hsrc
  iintro Hx
  unfold xAny
  icases Hx with ⟨%q, Hx⟩
  ihave Hx' := (pointsTo_share (PosShare.mem_left_op_right q)).1 $$ Hx
  icases Hx' with ⟨Hx, Hx2⟩
  ihave Hs := (pointsTo_split_subset (show (xM.slice (Rect.unit (s := S4096x4096) off ![h, l] inb) hs).view.set ⊆ Finset.univ from Finset.subset_univ _)).1 $$ Hx2
  icases Hs with ⟨Hs, -⟩
  iexists q.right, (X c)
  isplitr
  · ipureintro; exact hw
  isplitl [Hs]; · iexact Hs
  iexists q.left; iexact Hx

/-- A copy from `x` into a slot, on a batch: the batch's next delivery is the slot holding what was read. The share of `x` lent
    to the copy is not asked back. -/
theorem enq_x {n : ℕ} {A : Fin n → ℕ} {D : Fin n → sProp 𝕄} {j u h l : ℕ} {sm : SemLoc sig} (hj : j < n) (hu : u ≤ sumTo A j)
    {src : Memref sig .tc .hbm (Sh2 h l) .f32} {dst : Memref sig .tc .vmem (Sh2 h l) .f32} {hsrc hdst hsem}
    {α : Type} {k : PUnit → Prog (TpuEff nD τ sig (Elt F) Λ₀ .tc) α} {Q : α → sProp 𝕄}
    {w : (Sh2 h l).Idx → Elt F .f32} (g0 g : Buf (Elt F) (dst.view.loc (c : Thread nD τ)))
    (hS : xAny X c ⊢ iprop(∃ q : PosShare TreeShare, ∃ fs : Buf (Elt F) (src.view.loc (c : Thread nD τ)), ⌜src.view.read (Elt F) fs = w⌝
      ∗ ((src.view.loc (c : Thread nD τ)) ↦[src.view.set]{q} fs) ∗ xAny X c))
    (hA : dst.view.amount sm = A ⟨j, hj⟩) (hg : dst.view.read (Elt F) g = w)
    {P : sProp 𝕄} (hP : P ⊢ (dst.view.loc (c : Thread nD τ)) ↦[dst.view.set]{fullShare} g0)
    (hD : ((dst.view.loc (c : Thread nD τ)) ↦[dst.view.set]{fullShare} g) ⊢ D ⟨j, hj⟩) :
    iprop(xAny X c ∗ P ∗ MixedBatch EC (c : Thread nD τ) sm () A D j u)
      ⊢ iprop((xAny X c ∗ MixedBatch EC (c : Thread nD τ) sm () A D (j + 1) u -∗ wp frame (wpE defs₀ 𝒱₀ (c : Thread nD τ) none) Set.univ (k ⟨⟩) Q)
          -∗ wp frame (wpE defs₀ 𝒱₀ (c : Thread nD τ) none) Set.univ (.op (.enqueueDma src (.here dst) sm hsrc hdst hsem) k) Q) := by
  iintro ⟨Hx, HP, HB⟩ Hk
  ihave Hx' := hS $$ Hx
  icases Hx' with ⟨%q, %fs, %hw, Hs, Hx⟩
  ihave Hd := hP $$ HP
  iapply (wp_dmaMixedBatch EC 𝒱₀ (c : Thread nD τ) none () A (Finset.Subset.refl _) hj hA hu
    ((sep_mono_left (Entails.of_eq (pointsTo_congr (write_eq_of_read dst.view g0 g _ (hg.trans hw.symm))))).trans (sep_elim_left.trans hD))) $$ [Hs Hd HB]
  · isplitl [Hs]; · iexact Hs
    isplitl [Hd]; · iexact Hd
    iexact HB
  iintro HB
  iapply Hk
  isplitl [Hx]; · iexact Hx
  iexact HB

/-- The whole row of a rank-3 slot view's elements: slot `s`. -/
theorem slot_set_whole {a b : ℕ} (s : ℕ) {off : Fin 3 → ℕ} (hoff : off = ![s, 0, 0]) {inb : ∀ x, off x + (![1, a, b] : Fin 3 → ℕ) x ≤ (Sh3 2 a b).size x} :
    (Rect.unit (s := Sh3 2 a b) off ![1, a, b] inb).set = slotSet a b s := unit_slot_set s off hoff _ rfl _

theorem v_slot_set (s : ℕ) {off : Fin 3 → ℕ} (hoff : off = ![s, 0, 0]) {inb} {sq} :
    (slot vbM off inb sq).view.set = slotSet 512 4096 s :=
  (View.set_reshape _ _).trans ((View.set_slice_whole cc0_scratch0 _).trans (slot_set_whole s hoff))
theorem o_slot_set (s : ℕ) {off : Fin 3 → ℕ} (hoff : off = ![s, 0, 0]) {inb} {sq} :
    (slot obM off inb sq).view.set = slotSet 512 4096 s :=
  (View.set_reshape _ _).trans ((View.set_slice_whole cc0_scratch1 _).trans (slot_set_whole s hoff))
theorem t_slot_set (s : ℕ) {off : Fin 3 → ℕ} (hoff : off = ![s, 0, 0]) {inb} {sq} :
    (slot trM off inb sq).view.set = slotSet 1 4096 s :=
  (View.set_reshape _ _).trans ((View.set_slice_whole cc0_scratch2 _).trans (slot_set_whole s hoff))
theorem b_slot_set (s : ℕ) {off : Fin 3 → ℕ} (hoff : off = ![s, 0, 0]) {inb} {sq} :
    (slot brM off inb sq).view.set = slotSet 1 4096 s :=
  (View.set_reshape _ _).trans ((View.set_slice_whole cc0_scratch3 _).trans (slot_set_whole s hoff))

theorem vPts_slot (k : ℕ) {off : Fin 3 → ℕ} (hoff : off = ![k % 2, 0, 0]) {inb} {sq} (V) :
    vPts (F := F) c k V = (((slot vbM off inb sq).view.loc (c : Thread nD τ)) ↦[(slot vbM off inb sq).view.set]{fullShare} (lift3 V)) := by
  unfold vPts; rw [v_slot_set (k % 2) hoff]
theorem oPts_slot (k : ℕ) {off : Fin 3 → ℕ} (hoff : off = ![k % 2, 0, 0]) {inb} {sq} (V) :
    oPts (F := F) c k V = (((slot obM off inb sq).view.loc (c : Thread nD τ)) ↦[(slot obM off inb sq).view.set]{fullShare} (lift3 V)) := by
  unfold oPts; rw [o_slot_set (k % 2) hoff]
theorem tPts_slot (k : ℕ) {off : Fin 3 → ℕ} (hoff : off = ![k % 2, 0, 0]) {inb} {sq} (V) :
    tPts (F := F) c k V = (((slot trM off inb sq).view.loc (c : Thread nD τ)) ↦[(slot trM off inb sq).view.set]{fullShare} (lift3 V)) := by
  unfold tPts; rw [t_slot_set (k % 2) hoff]
theorem bPts_slot (k : ℕ) {off : Fin 3 → ℕ} (hoff : off = ![k % 2, 0, 0]) {inb} {sq} (V) :
    bPts (F := F) c k V = (((slot brM off inb sq).view.loc (c : Thread nD τ)) ↦[(slot brM off inb sq).view.set]{fullShare} (lift3 V)) := by
  unfold bPts; rw [b_slot_set (k % 2) hoff]

/-- What the three copies of chunk `k` from `x` read. -/
theorem x_read_chunk (k : ℕ) {off : Fin 2 → ℕ} (hoff : off = ![512 * k, 0]) {inb} {hs} :
    (xM.slice (Rect.unit (s := S4096x4096) off ![512, 4096] inb) hs).view.read (Elt F) (X c) = xv X c k := by
  funext i
  rw [x_read X c 512 4096 (512 * k) 0 off hoff inb hs i (by have : (i 1).val < 4096 := (i 1).isLt; omega)]
  unfold xv
  congr 1
  apply Fin.ext; exact Nat.zero_add _
theorem x_read_row (r : ℕ) {off : Fin 2 → ℕ} (hoff : off = ![r, 0]) {inb} {hs} :
    (xM.slice (Rect.unit (s := S4096x4096) off ![1, 4096] inb) hs).view.read (Elt F) (X c) = fun i => xRow X c r (i 1) := by
  funext i
  rw [x_read X c 1 4096 r 0 off hoff inb hs i (by have : (i 1).val < 4096 := (i 1).isLt; omega)]
  have h0 : (i 0).val < 1 := (i 0).isLt
  rw [show (i 0).val = 0 by omega]
  congr 1
  apply Fin.ext; exact Nat.zero_add _

/-- Chunk `k` into its slot; -/
theorem enq_v {n : ℕ} {A : Fin n → ℕ} {D : Fin n → sProp 𝕄} {j u : ℕ} {sm : DmaSem sig}
    {src : Memref sig .tc .hbm S512x4096 .f32} {dst : Memref sig .tc .vmem S512x4096 .f32} {hsrc hdst hsem}
    {α : Type} {kk : PUnit → Prog (TpuEff nD τ sig (Elt F) Λ₀ .tc) α} {Q : α → sProp 𝕄}
    (k : ℕ) (hj : j < n) (hu : u ≤ sumTo A j) (hsm : sm = sIn k)
    {off : Fin 2 → ℕ} (hoff : off = ![512 * k, 0]) {inb} {hs} (hsrc' : src = xM.slice (Rect.unit (s := S4096x4096) off S512x4096.size inb) hs)
    {offd : Fin 3 → ℕ} (hoffd : offd = ![k % 2, 0, 0]) {inbd} {sq} (hdst' : dst = slot vbM offd inbd sq)
    (hA : A ⟨j, hj⟩ = Nv) (hD : D ⟨j, hj⟩ = vPts c k (xv X c k)) :
    iprop(xAny X c ∗ (∃ V, vPts (F := F) c k V) ∗ MixedBatch EC (c : Thread nD τ) (.dma (sIn k)) () A D j u)
      ⊢ iprop((xAny X c ∗ MixedBatch EC (c : Thread nD τ) (.dma (sIn k)) () A D (j + 1) u -∗ wp frame (wpE defs₀ 𝒱₀ (c : Thread nD τ) none) Set.univ (kk ⟨⟩) Q)
          -∗ wp frame (wpE defs₀ 𝒱₀ (c : Thread nD τ) none) Set.univ (.op (.enqueueDma src (.here dst) (.dma sm) hsrc hdst hsem) kk) Q) := by
  subst hsm
  have hA' : dst.view.amount (.dma (sIn k)) = A ⟨j, hj⟩ := by subst hdst'; exact hA.symm
  have hS := lend_x X c (w := xv X c k) hsrc' (x_read_chunk X c k hoff)
  have hP : ∀ V, ∃ g : Buf (Elt F) (dst.view.loc (c : Thread nD τ)), dst.view.read (Elt F) g = V ∧
      vPts (F := F) c k V = ((dst.view.loc (c : Thread nD τ)) ↦[dst.view.set]{fullShare} g) := by
    subst hdst'
    exact fun V => ⟨lift3 V, slot_read vbM (k % 2) offd hoffd inbd sq (lift3 V) _ rfl, vPts_slot c k hoffd V⟩
  obtain ⟨g, hg, hPg⟩ := hP (xv X c k)
  iintro ⟨Hx, ⟨%V, HP⟩, HB⟩ Hk
  obtain ⟨g0, -, hP0⟩ := hP V
  iapply (enq_x X c hj hu g0 g hS hA' hg (Entails.of_eq hP0) (Entails.of_eq (hPg.symm.trans hD.symm))) $$ [Hx HP HB]
  · isplitl [Hx]; · iexact Hx
    isplitl [HP]; · iexact HP
    iexact HB
  iexact Hk

/-- the row above it; -/
theorem enq_t {n : ℕ} {A : Fin n → ℕ} {D : Fin n → sProp 𝕄} {j u : ℕ} {sm : DmaSem sig}
    {src : Memref sig .tc .hbm S1x4096 .f32} {dst : Memref sig .tc .vmem S1x4096 .f32} {hsrc hdst hsem}
    {α : Type} {kk : PUnit → Prog (TpuEff nD τ sig (Elt F) Λ₀ .tc) α} {Q : α → sProp 𝕄}
    (k : ℕ) (hk : k ≠ 0) (hj : j < n) (hu : u ≤ sumTo A j) (hsm : sm = sIn k)
    {off : Fin 2 → ℕ} (hoff : off = ![512 * k - 1, 0]) {inb} {hs} (hsrc' : src = xM.slice (Rect.unit (s := S4096x4096) off S1x4096.size inb) hs)
    {offd : Fin 3 → ℕ} (hoffd : offd = ![k % 2, 0, 0]) {inbd} {sq} (hdst' : dst = slot trM offd inbd sq)
    (hA : A ⟨j, hj⟩ = Nt) (hD : D ⟨j, hj⟩ = tPts c k (xt X c k)) :
    iprop(xAny X c ∗ (∃ V, tPts (F := F) c k V) ∗ MixedBatch EC (c : Thread nD τ) (.dma (sIn k)) () A D j u)
      ⊢ iprop((xAny X c ∗ MixedBatch EC (c : Thread nD τ) (.dma (sIn k)) () A D (j + 1) u -∗ wp frame (wpE defs₀ 𝒱₀ (c : Thread nD τ) none) Set.univ (kk ⟨⟩) Q)
          -∗ wp frame (wpE defs₀ 𝒱₀ (c : Thread nD τ) none) Set.univ (.op (.enqueueDma src (.here dst) (.dma sm) hsrc hdst hsem) kk) Q) := by
  subst hsm
  have hA' : dst.view.amount (.dma (sIn k)) = A ⟨j, hj⟩ := by subst hdst'; exact hA.symm
  have hS := lend_x X c (w := xt X c k) hsrc' ((x_read_row X c _ hoff).trans (by unfold xt; exact (if_neg hk).symm))
  have hP : ∀ V, ∃ g : Buf (Elt F) (dst.view.loc (c : Thread nD τ)), dst.view.read (Elt F) g = V ∧
      tPts (F := F) c k V = ((dst.view.loc (c : Thread nD τ)) ↦[dst.view.set]{fullShare} g) := by
    subst hdst'
    exact fun V => ⟨lift3 V, slot_read trM (k % 2) offd hoffd inbd sq (lift3 V) _ rfl, tPts_slot c k hoffd V⟩
  obtain ⟨g, hg, hPg⟩ := hP (xt X c k)
  iintro ⟨Hx, ⟨%V, HP⟩, HB⟩ Hk
  obtain ⟨g0, -, hP0⟩ := hP V
  iapply (enq_x X c hj hu g0 g hS hA' hg (Entails.of_eq hP0) (Entails.of_eq (hPg.symm.trans hD.symm))) $$ [Hx HP HB]
  · isplitl [Hx]; · iexact Hx
    isplitl [HP]; · iexact HP
    iexact HB
  iexact Hk

/-- the row below it. -/
theorem enq_b {n : ℕ} {A : Fin n → ℕ} {D : Fin n → sProp 𝕄} {j u : ℕ} {sm : DmaSem sig}
    {src : Memref sig .tc .hbm S1x4096 .f32} {dst : Memref sig .tc .vmem S1x4096 .f32} {hsrc hdst hsem}
    {α : Type} {kk : PUnit → Prog (TpuEff nD τ sig (Elt F) Λ₀ .tc) α} {Q : α → sProp 𝕄}
    (k : ℕ) (hk : k ≠ 7) (hj : j < n) (hu : u ≤ sumTo A j) (hsm : sm = sIn k)
    {off : Fin 2 → ℕ} (hoff : off = ![512 * (k + 1), 0]) {inb} {hs} (hsrc' : src = xM.slice (Rect.unit (s := S4096x4096) off S1x4096.size inb) hs)
    {offd : Fin 3 → ℕ} (hoffd : offd = ![k % 2, 0, 0]) {inbd} {sq} (hdst' : dst = slot brM offd inbd sq)
    (hA : A ⟨j, hj⟩ = Nb) (hD : D ⟨j, hj⟩ = bPts c k (xb X c k)) :
    iprop(xAny X c ∗ (∃ V, bPts (F := F) c k V) ∗ MixedBatch EC (c : Thread nD τ) (.dma (sIn k)) () A D j u)
      ⊢ iprop((xAny X c ∗ MixedBatch EC (c : Thread nD τ) (.dma (sIn k)) () A D (j + 1) u -∗ wp frame (wpE defs₀ 𝒱₀ (c : Thread nD τ) none) Set.univ (kk ⟨⟩) Q)
          -∗ wp frame (wpE defs₀ 𝒱₀ (c : Thread nD τ) none) Set.univ (.op (.enqueueDma src (.here dst) (.dma sm) hsrc hdst hsem) kk) Q) := by
  subst hsm
  have hA' : dst.view.amount (.dma (sIn k)) = A ⟨j, hj⟩ := by subst hdst'; exact hA.symm
  have hS := lend_x X c (w := xb X c k) hsrc' ((x_read_row X c _ hoff).trans (by unfold xb; exact (if_neg hk).symm))
  have hP : ∀ V, ∃ g : Buf (Elt F) (dst.view.loc (c : Thread nD τ)), dst.view.read (Elt F) g = V ∧
      bPts (F := F) c k V = ((dst.view.loc (c : Thread nD τ)) ↦[dst.view.set]{fullShare} g) := by
    subst hdst'
    exact fun V => ⟨lift3 V, slot_read brM (k % 2) offd hoffd inbd sq (lift3 V) _ rfl, bPts_slot c k hoffd V⟩
  obtain ⟨g, hg, hPg⟩ := hP (xb X c k)
  iintro ⟨Hx, ⟨%V, HP⟩, HB⟩ Hk
  obtain ⟨g0, -, hP0⟩ := hP V
  iapply (enq_x X c hj hu g0 g hS hA' hg (Entails.of_eq hP0) (Entails.of_eq (hPg.symm.trans hD.symm))) $$ [Hx HP HB]
  · isplitl [Hx]; · iexact Hx
    isplitl [HP]; · iexact HP
    iexact HB
  iexact Hk

/-! ## Waits of the batch and of the local copies -/

section Waits
variable {n : ℕ} {A : Fin n → ℕ} {j u : ℕ} {sp sp' : Space} {s s' : Shape} {e e' : EltTy} {sm : DmaSem sig}
  {src : Memref sig .tc sp s e} {dst : Memref sig .tc sp' s' e'}
  {α : Type} {kk : PUnit → Prog (TpuEff nD τ sig (Elt F) Λ₀ .tc) α}

/-- A wait of a batch that is not its last: only the count moves. -/
theorem wait_more {D : Fin n → sProp 𝕄} {Q : α → sProp 𝕄} {hw hw'} (k : ℕ) (hsm : sm = sIn k) {J : ℕ} (hJ : dst.view.dmaCredit = J)
    (hu : u + J ≤ sumTo A j) :
    iprop(MixedBatch EC (c : Thread nD τ) (.dma (sIn k)) () A D j u ∗ (∃ W, owes (c : Thread nD τ) 0 W))
      ⊢ iprop((MixedBatch EC (c : Thread nD τ) (.dma (sIn k)) () A D j (u + J) ∗ (∃ W, owes (c : Thread nD τ) 0 W)
            -∗ wp frame (wpE defs₀ 𝒱₀ (c : Thread nD τ) none) Set.univ (kk ⟨⟩) Q)
          -∗ wp frame (wpE defs₀ 𝒱₀ (c : Thread nD τ) none) Set.univ (.op (.waitDma2 sm src dst hw hw') kk) Q) := by
  subst hsm
  iintro ⟨HB, ⟨%W, HO⟩⟩ Hk
  iapply (wp_waitMixedBatch EC 𝒱₀ (c : Thread nD τ) none () hJ hu) $$ [HB HO]
  · isplitl [HB]; · iexact HB
    iexact HO
  iintro ⟨HB, HO⟩
  iapply Hk
  isplitl [HB]; · iexact HB
  iexists _; iexact HO

/-- Its last wait: everything it delivers, and the semaphore back at zero. -/
theorem wait_last {D : Fin n → sProp 𝕄} {Q : α → sProp 𝕄} {hw hw'} (k : ℕ) (hsm : sm = sIn k) {J : ℕ} (hJ : dst.view.dmaCredit = J)
    (hA : ∀ t, 0 < A t) (hu : u + J = sumTo A n) :
    iprop(MixedBatch EC (c : Thread nD τ) (.dma (sIn k)) () A D n u ∗ (∃ W, owes (c : Thread nD τ) 0 W))
      ⊢ iprop((bigSep Finset.univ D ∗ semVal ((c : Thread nD τ), .dma (sIn k)) 0 ∗ (∃ W, owes (c : Thread nD τ) 0 W)
            -∗ wp frame (wpE defs₀ 𝒱₀ (c : Thread nD τ) none) Set.univ (kk ⟨⟩) Q)
          -∗ wp frame (wpE defs₀ 𝒱₀ (c : Thread nD τ) none) Set.univ (.op (.waitDma2 sm src dst hw hw') kk) Q) := by
  subst hsm
  iintro ⟨HB, ⟨%W, HO⟩⟩ Hk
  iapply (wp_waitMixedBatchAll EC 𝒱₀ (c : Thread nD τ) none () hJ hA hu) $$ [HB HO]
  · isplitl [HB]; · iexact HB
    iexact HO
  iintro ⟨HD, HS, HO⟩
  iapply Hk
  isplitl [HD]; · iexact HD
  isplitl [HS]; · iexact HS
  iexists _; iexact HO

/-- A single local copy's wait. -/
theorem wait_one {D : sProp 𝕄} {Q : α → sProp 𝕄} {hw hw'} {sm' : DmaSem sig} (hsm : sm = sm') {J : ℕ} (hJ : dst.view.dmaCredit = J) :
    iprop(Flight EC (c : Thread nD τ) (.dma sm') () J D ∗ (∃ W, owes (c : Thread nD τ) 0 W))
      ⊢ iprop((D ∗ semVal ((c : Thread nD τ), .dma sm') 0 ∗ (∃ W, owes (c : Thread nD τ) 0 W)
            -∗ wp frame (wpE defs₀ 𝒱₀ (c : Thread nD τ) none) Set.univ (kk ⟨⟩) Q)
          -∗ wp frame (wpE defs₀ 𝒱₀ (c : Thread nD τ) none) Set.univ (.op (.waitDma2 sm src dst hw hw') kk) Q) := by
  subst hsm
  iintro ⟨HB, ⟨%W, HO⟩⟩ Hk
  iapply (wp_waitLocal EC 𝒱₀ (c : Thread nD τ) none () hJ) $$ [HB HO]
  · isplitl [HB]; · iexact HB
    iexact HO
  iintro ⟨HD, HS, HO⟩
  iapply Hk
  isplitl [HD]; · iexact HD
  isplitl [HS]; · iexact HS
  iexists _; iexact HO

end Waits

/-! ## Loads and stores of the slots -/

/-- The one-slot vector with contents `V`. -/
def blk3 {a b : ℕ} (V : (Sh2 a b).Idx → Elt F .f32) : (Sh3 1 a b).Idx → Elt F .f32 := fun i => V (ix2 (i 1) (i 2))

theorem slot_load {a b : ℕ} (M : Memref sig .tc .vmem (Sh3 2 a b) .f32) (s : ℕ) {off : Fin 3 → ℕ} (hoff : off = ![s, 0, 0]) {inb}
    (f : M.view.ty.Contents (Elt F)) (V : (Sh2 a b).Idx → Elt F .f32) (hf : M.view.read (Elt F) f = lift3 V) :
    M.view.readAt (Elt F) (Rect.unit (s := Sh3 2 a b) off ![1, a, b] inb).toLoadRect f = blk3 V := by
  rw [readAt_blk M.view s 0 0 off hoff inb f V hf (by omega) (by omega)]
  funext i
  unfold blk3
  congr 1
  funext x
  match x with
  | ⟨0, _⟩ => apply Fin.ext; exact Nat.zero_add _
  | ⟨1, _⟩ => apply Fin.ext; exact Nat.zero_add _

section Ops
variable {α : Type} (k : ℕ) {off : Fin 3 → ℕ}

theorem load_v {Q : α → sProp 𝕄} {inb hl} {kk : ((Sh3 1 512 4096).Idx → Elt F .f32) → Prog (TpuEff nD τ sig (Elt F) Λ₀ .tc) α}
    (hoff : off = ![k % 2, 0, 0]) (V) :
    vPts (F := F) c k V ⊢ iprop((vPts (F := F) c k V -∗ wp frame (wpE defs₀ 𝒱₀ (c : Thread nD τ) none) Set.univ (kk (blk3 V)) Q)
      -∗ wp frame (wpE defs₀ 𝒱₀ (c : Thread nD τ) none) Set.univ
        (.op (.load vbM (Rect.unit (s := Sh3 2 512 4096) off ![1, 512, 4096] inb).toLoadRect hl) kk) Q) := by
  have hv : (vbM.access (Rect.unit (s := Sh3 2 512 4096) off ![1, 512, 4096] inb)).read (Elt F) (lift3 V) = blk3 V :=
    slot_load vbM (k % 2) hoff (inb := inb) (lift3 V) V rfl
  have hS : (vbM.access (Rect.unit (s := Sh3 2 512 4096) off ![1, 512, 4096] inb)).set ⊆ slotSet 512 4096 (k % 2) :=
    ((View.set_slice_whole cc0_scratch0 _).trans (slot_set_whole (k % 2) hoff)).subset
  unfold vPts
  iintro Ho Hk
  iapply (wp_load_rect 𝒱₀ (c : Thread nD τ) none Set.univ (S := slotSet 512 4096 (k % 2)) (f := lift3 V) hS) $$ [Ho]
  · iexact Ho
  rw [hv]
  iexact Hk

theorem load_t {Q : α → sProp 𝕄} {inb hl} {kk : ((Sh3 1 1 4096).Idx → Elt F .f32) → Prog (TpuEff nD τ sig (Elt F) Λ₀ .tc) α}
    (hoff : off = ![k % 2, 0, 0]) (V) :
    tPts (F := F) c k V ⊢ iprop((tPts (F := F) c k V -∗ wp frame (wpE defs₀ 𝒱₀ (c : Thread nD τ) none) Set.univ (kk (blk3 V)) Q)
      -∗ wp frame (wpE defs₀ 𝒱₀ (c : Thread nD τ) none) Set.univ
        (.op (.load trM (Rect.unit (s := Sh3 2 1 4096) off ![1, 1, 4096] inb).toLoadRect hl) kk) Q) := by
  have hv : (trM.access (Rect.unit (s := Sh3 2 1 4096) off ![1, 1, 4096] inb)).read (Elt F) (lift3 V) = blk3 V :=
    slot_load trM (k % 2) hoff (inb := inb) (lift3 V) V rfl
  have hS : (trM.access (Rect.unit (s := Sh3 2 1 4096) off ![1, 1, 4096] inb)).set ⊆ slotSet 1 4096 (k % 2) :=
    ((View.set_slice_whole cc0_scratch2 _).trans (slot_set_whole (k % 2) hoff)).subset
  unfold tPts
  iintro Ho Hk
  iapply (wp_load_rect 𝒱₀ (c : Thread nD τ) none Set.univ (S := slotSet 1 4096 (k % 2)) (f := lift3 V) hS) $$ [Ho]
  · iexact Ho
  rw [hv]
  iexact Hk

theorem load_b {Q : α → sProp 𝕄} {inb hl} {kk : ((Sh3 1 1 4096).Idx → Elt F .f32) → Prog (TpuEff nD τ sig (Elt F) Λ₀ .tc) α}
    (hoff : off = ![k % 2, 0, 0]) (V) :
    bPts (F := F) c k V ⊢ iprop((bPts (F := F) c k V -∗ wp frame (wpE defs₀ 𝒱₀ (c : Thread nD τ) none) Set.univ (kk (blk3 V)) Q)
      -∗ wp frame (wpE defs₀ 𝒱₀ (c : Thread nD τ) none) Set.univ
        (.op (.load brM (Rect.unit (s := Sh3 2 1 4096) off ![1, 1, 4096] inb).toLoadRect hl) kk) Q) := by
  have hv : (brM.access (Rect.unit (s := Sh3 2 1 4096) off ![1, 1, 4096] inb)).read (Elt F) (lift3 V) = blk3 V :=
    slot_load brM (k % 2) hoff (inb := inb) (lift3 V) V rfl
  have hS : (brM.access (Rect.unit (s := Sh3 2 1 4096) off ![1, 1, 4096] inb)).set ⊆ slotSet 1 4096 (k % 2) :=
    ((View.set_slice_whole cc0_scratch3 _).trans (slot_set_whole (k % 2) hoff)).subset
  unfold bPts
  iintro Ho Hk
  iapply (wp_load_rect 𝒱₀ (c : Thread nD τ) none Set.univ (S := slotSet 1 4096 (k % 2)) (f := lift3 V) hS) $$ [Ho]
  · iexact Ho
  rw [hv]
  iexact Hk

/-- A load of the output slot, whatever it reads. -/
theorem load_o {Q : α → sProp 𝕄} (h l r cc : ℕ) {inb hl} {kk : ((Sh3 1 h l).Idx → Elt F .f32) → Prog (TpuEff nD τ sig (Elt F) Λ₀ .tc) α}
    (hoff : off = ![k % 2, r, cc]) (V) :
    oPts (F := F) c k V ⊢ iprop((∀ w, oPts (F := F) c k V -∗ wp frame (wpE defs₀ 𝒱₀ (c : Thread nD τ) none) Set.univ (kk w) Q)
      -∗ wp frame (wpE defs₀ 𝒱₀ (c : Thread nD τ) none) Set.univ
        (.op (.load obM (Rect.unit (s := Sh3 2 512 4096) off ![1, h, l] inb).toLoadRect hl) kk) Q) := by
  have hS : (obM.access (Rect.unit (s := Sh3 2 512 4096) off ![1, h, l] inb)).set ⊆ slotSet 512 4096 (k % 2) :=
    (View.set_slice_whole cc0_scratch1 _).subset.trans (unit_blk_subset (k % 2) r cc h l off hoff _ rfl inb)
  unfold oPts
  iintro Ho Hk
  iapply (wp_load_rect 𝒱₀ (c : Thread nD τ) none Set.univ (S := slotSet 512 4096 (k % 2)) (f := lift3 V) hS) $$ [Ho]
  · iexact Ho
  iintro Ho
  iapply Hk
  iexact Ho

/-- A store into the output slot. -/
theorem store_o {Q : α → sProp 𝕄} (h l r cc : ℕ) {inb hx hm} {kk : PUnit → Prog (TpuEff nD τ sig (Elt F) Λ₀ .tc) α}
    (hoff : off = ![k % 2, r, cc]) (w : (Sh3 1 h l).Idx → Elt F .f32) (V) :
    oPts (F := F) c k V ⊢ iprop((oPts (F := F) c k (setBlk r cc w V) -∗ wp frame (wpE defs₀ 𝒱₀ (c : Thread nD τ) none) Set.univ (kk ⟨⟩) Q)
      -∗ wp frame (wpE defs₀ 𝒱₀ (c : Thread nD τ) none) Set.univ
        (.op (.store obM (Rect.unit (s := Sh3 2 512 4096) off ![1, h, l] inb) w Finset.univ hx hm) kk) Q) := by
  have hcg : oPts (F := F) c k (setBlk r cc w V) = (((c : Thread nD τ).loc cc0_scratch1) ↦[slotSet 512 4096 (k % 2)]{fullShare}
      ((obM.access (Rect.unit (s := Sh3 2 512 4096) off ![1, h, l] inb)).write (Elt F) (lift3 V) w Finset.univ)) := by
    unfold oPts
    exact pointsTo_congr fun i hi => (read_write_blk obM.view (k % 2) r cc off hoff inb (lift3 V) V rfl w i hi).symm
  have hS : (obM.access (Rect.unit (s := Sh3 2 512 4096) off ![1, h, l] inb)).setOn Finset.univ ⊆ slotSet 512 4096 (k % 2) :=
    (View.set_slice_whole cc0_scratch1 _).subset.trans (unit_blk_subset (k % 2) r cc h l off hoff _ rfl inb)
  rw [hcg]
  unfold oPts
  iintro Ho Hk
  iapply (wp_store 𝒱₀ (c : Thread nD τ) none Set.univ (S := slotSet 512 4096 (k % 2)) (f := lift3 V) hS) $$ [Ho]
  · iexact Ho
  iexact Hk

/-- A load from the received column. -/
def ldCol (h r : ℕ) (V : S4096x1.Idx → Elt F .f32) : (Sh2 h 1).Idx → Elt F .f32 :=
  fun i => V (ix2 ⟨(r + (i 0).val) % 4096, Nat.mod_lt _ (by decide)⟩ 0)

theorem load_rc {Q : α → sProp 𝕄} (h r : ℕ) {off : Fin 2 → ℕ} {inb hl} {kk : ((Sh2 h 1).Idx → Elt F .f32) → Prog (TpuEff nD τ sig (Elt F) Λ₀ .tc) α}
    (hoff : off = ![r, 0]) (V) :
    rcPts (F := F) c V ⊢ iprop((rcPts (F := F) c V -∗ wp frame (wpE defs₀ 𝒱₀ (c : Thread nD τ) none) Set.univ (kk (ldCol h r V)) Q)
      -∗ wp frame (wpE defs₀ 𝒱₀ (c : Thread nD τ) none) Set.univ
        (.op (.load rcM (Rect.unit (s := S4096x1) off ![h, 1] inb).toLoadRect hl) kk) Q) := by
  have hv : (rcM.access (Rect.unit (s := S4096x1) off ![h, 1] inb)).read (Elt F) V = ldCol h r V := by
    subst hoff
    funext i
    have h0 : r + (i 0).val < 4096 := by
      have h1 : r + h ≤ 4096 := inb 0
      have h2 : (i 0).val < h := (i 0).isLt
      omega
    have h1 : (i 1).val < 1 := (i 1).isLt
    show V _ = V _
    congr 1
    funext x
    match x with
    | ⟨0, _⟩ => apply Fin.ext; show r + 1 * (i 0).val = (r + (i 0).val) % 4096; rw [Nat.mod_eq_of_lt h0, Nat.one_mul]
    | ⟨1, _⟩ => apply Fin.ext; show 0 + 1 * (i 1).val = 0; omega
  unfold rcPts
  iintro Ho Hk
  iapply (wp_load_rect 𝒱₀ (c : Thread nD τ) none Set.univ (S := Finset.univ) (f := V) (Finset.subset_univ _)) $$ [Ho]
  · iexact Ho
  rw [hv]
  iexact Hk

end Ops

/-! ## The copies of the received row, and the copies out -/

theorem enq_rr_t {sm sm' : DmaSem sig} {dst : Memref sig .tc .vmem S1x4096 .f32} {hsrc hdst hsem}
    {α : Type} {kk : PUnit → Prog (TpuEff nD τ sig (Elt F) Λ₀ .tc) α} {Q : α → sProp 𝕄}
    (k : ℕ) (hsm : sm = sm') {offd : Fin 3 → ℕ} (hoffd : offd = ![k % 2, 0, 0]) {inbd} {sq} (hdst' : dst = slot trM offd inbd sq)
    (V : S1x4096.Idx → Elt F .f32) :
    iprop(rrPts c V ∗ (∃ V', tPts (F := F) c k V') ∗ semVal ((c : Thread nD τ), .dma sm') 0)
      ⊢ iprop((Flight EC (c : Thread nD τ) (.dma sm') () Nt iprop(tPts (F := F) c k V ∗ rrPts c V)
            -∗ wp frame (wpE defs₀ 𝒱₀ (c : Thread nD τ) none) Set.univ (kk ⟨⟩) Q)
          -∗ wp frame (wpE defs₀ 𝒱₀ (c : Thread nD τ) none) Set.univ (.op (.enqueueDma rrM (.here dst) (.dma sm) hsrc hdst hsem) kk) Q) := by
  subst hsm
  have hN : dst.view.amount (.dma sm) = Nt := by subst hdst'; rfl
  have hP : ∀ V, ∃ g : Buf (Elt F) (dst.view.loc (c : Thread nD τ)), dst.view.read (Elt F) g = V ∧
      tPts (F := F) c k V = ((dst.view.loc (c : Thread nD τ)) ↦[dst.view.set]{fullShare} g) := by
    subst hdst'
    exact fun V => ⟨lift3 V, slot_read trM (k % 2) offd hoffd inbd sq (lift3 V) _ rfl, tPts_slot c k hoffd V⟩
  obtain ⟨g, hg, hPg⟩ := hP V
  have hr : rrPts c V = ((rrM.view.loc (c : Thread nD τ)) ↦[rrM.view.set]{fullShare} V) := by unfold rrPts; rw [View.set_whole]
  rw [hr, hPg]
  iintro ⟨Hr, ⟨%V', HP⟩, HS⟩ Hk
  obtain ⟨g0, -, hP0⟩ := hP V'
  ihave HP := (Entails.of_eq hP0) $$ HP
  iapply (wp_dmaLocal EC 𝒱₀ (c : Thread nD τ) none () Nt hN Nt_pos (Finset.Subset.refl _)) $$ [Hr HP HS]
  · isplitl [Hr]; · iexact Hr
    isplitl [HP]; · iexact HP
    iexact HS
  iintro HF
  iapply Hk
  iapply (Flight_mono EC (c : Thread nD τ) (sep_mono_left (Entails.of_eq (pointsTo_congr (write_eq_of_read dst.view g0 g _ hg)))))
  iexact HF

theorem enq_rr_b {sm sm' : DmaSem sig} {dst : Memref sig .tc .vmem S1x4096 .f32} {hsrc hdst hsem}
    {α : Type} {kk : PUnit → Prog (TpuEff nD τ sig (Elt F) Λ₀ .tc) α} {Q : α → sProp 𝕄}
    (k : ℕ) (hsm : sm = sm') {offd : Fin 3 → ℕ} (hoffd : offd = ![k % 2, 0, 0]) {inbd} {sq} (hdst' : dst = slot brM offd inbd sq)
    (V : S1x4096.Idx → Elt F .f32) :
    iprop(rrPts c V ∗ (∃ V', bPts (F := F) c k V') ∗ semVal ((c : Thread nD τ), .dma sm') 0)
      ⊢ iprop((Flight EC (c : Thread nD τ) (.dma sm') () Nb iprop(bPts (F := F) c k V ∗ rrPts c V)
            -∗ wp frame (wpE defs₀ 𝒱₀ (c : Thread nD τ) none) Set.univ (kk ⟨⟩) Q)
          -∗ wp frame (wpE defs₀ 𝒱₀ (c : Thread nD τ) none) Set.univ (.op (.enqueueDma rrM (.here dst) (.dma sm) hsrc hdst hsem) kk) Q) := by
  subst hsm
  have hN : dst.view.amount (.dma sm) = Nb := by subst hdst'; rfl
  have hP : ∀ V, ∃ g : Buf (Elt F) (dst.view.loc (c : Thread nD τ)), dst.view.read (Elt F) g = V ∧
      bPts (F := F) c k V = ((dst.view.loc (c : Thread nD τ)) ↦[dst.view.set]{fullShare} g) := by
    subst hdst'
    exact fun V => ⟨lift3 V, slot_read brM (k % 2) offd hoffd inbd sq (lift3 V) _ rfl, bPts_slot c k hoffd V⟩
  obtain ⟨g, hg, hPg⟩ := hP V
  have hr : rrPts c V = ((rrM.view.loc (c : Thread nD τ)) ↦[rrM.view.set]{fullShare} V) := by unfold rrPts; rw [View.set_whole]
  rw [hr, hPg]
  iintro ⟨Hr, ⟨%V', HP⟩, HS⟩ Hk
  obtain ⟨g0, -, hP0⟩ := hP V'
  ihave HP := (Entails.of_eq hP0) $$ HP
  iapply (wp_dmaLocal EC 𝒱₀ (c : Thread nD τ) none () Nb hN Nb_pos (Finset.Subset.refl _)) $$ [Hr HP HS]
  · isplitl [Hr]; · iexact Hr
    isplitl [HP]; · iexact HP
    iexact HS
  iintro HF
  iapply Hk
  iapply (Flight_mono EC (c : Thread nD τ) (sep_mono_left (Entails.of_eq (pointsTo_congr (write_eq_of_read dst.view g0 g _ hg)))))
  iexact HF

theorem out_set (k : ℕ) {off : Fin 2 → ℕ} (hoff : off = ![512 * k, 0]) {inb} {hs} :
    (oM.slice (Rect.unit (s := S4096x4096) off ![512, 4096] inb) hs).view.set = rowsSet (512 * k) (512 * k + 512) := by
  subst hoff
  refine (View.set_slice_whole main_v1 _).trans ?_
  ext i
  rw [mem_rowsSet]
  refine Rect.mem_set_unit.trans ⟨fun h => h 0, fun h x => ?_⟩
  have h1 : (i 1).val < 4096 := (i 1).isLt
  match x with
  | ⟨0, _⟩ => exact h
  | ⟨1, _⟩ => exact ⟨Nat.zero_le _, by show (i 1).val < 0 + 4096; omega⟩

theorem out_read (k : ℕ) {off : Fin 2 → ℕ} (hoff : off = ![512 * k, 0]) {inb} {hs} (G : Blk F) (V : S512x4096.Idx → Elt F .f32)
    (hG : ∀ (r : Fin 4096) (j : Fin 4096) (i : Fin 512), r.val = 512 * k + i.val → G (ix2 r j) = V (ix2 i j)) :
    (oM.slice (Rect.unit (s := S4096x4096) off ![512, 4096] inb) hs).view.read (Elt F) G = V := by
  subst hoff
  funext i
  have h0 : 512 * k + (i 0).val < 4096 := by
    have h1 : 512 * k + 512 ≤ 4096 := inb 0
    have h2 : (i 0).val < 512 := (i 0).isLt
    omega
  rw [eq_ix2 i]
  refine Eq.trans ?_ (hG ⟨512 * k + (i 0).val, h0⟩ (i 1) (i 0) rfl)
  show G _ = G _
  congr 1
  funext x
  match x with
  | ⟨0, _⟩ => apply Fin.ext; show 512 * k + 1 * (i 0).val = 512 * k + (i 0).val; rw [Nat.one_mul]
  | ⟨1, _⟩ => apply Fin.ext; show 0 + 1 * (i 1).val = (i 1).val; omega

/-- Chunk `k`'s copy out: in flight it owns the output slot and the chunk's rows, and hands both back, the rows holding `G`. -/
theorem enq_out {sm : DmaSem sig} {src : Memref sig .tc .vmem S512x4096 .f32} {dst : Memref sig .tc .hbm S512x4096 .f32} {hsrc hdst hsem}
    {α : Type} {kk : PUnit → Prog (TpuEff nD τ sig (Elt F) Λ₀ .tc) α} {Q : α → sProp 𝕄}
    (k : ℕ) (hsm : sm = sOut k) {offs : Fin 3 → ℕ} (hoffs : offs = ![k % 2, 0, 0]) {inbs} {sq} (hsrc' : src = slot obM offs inbs sq)
    {offd : Fin 2 → ℕ} (hoffd : offd = ![512 * k, 0]) {inbd} {hs} (hdst' : dst = oM.slice (Rect.unit (s := S4096x4096) offd S512x4096.size inbd) hs)
    (G f0 : Blk F) (V : S512x4096.Idx → Elt F .f32)
    (hG : ∀ (r : Fin 4096) (j : Fin 4096) (i : Fin 512), r.val = 512 * k + i.val → G (ix2 r j) = V (ix2 i j)) :
    iprop(oPts c k V ∗ oReg c (512 * k) (512 * k + 512) f0 ∗ semVal ((c : Thread nD τ), .dma (sOut k)) 0)
      ⊢ iprop((Flight EC (c : Thread nD τ) (.dma (sOut k)) () No iprop(oReg c (512 * k) (512 * k + 512) G ∗ oPts c k V)
            -∗ wp frame (wpE defs₀ 𝒱₀ (c : Thread nD τ) none) Set.univ (kk ⟨⟩) Q)
          -∗ wp frame (wpE defs₀ 𝒱₀ (c : Thread nD τ) none) Set.univ (.op (.enqueueDma src (.here dst) (.dma sm) hsrc hdst hsem) kk) Q) := by
  subst hsm
  have hN : dst.view.amount (.dma (sOut k)) = No := by subst hdst'; rfl
  have hP : ∃ g : Buf (Elt F) (src.view.loc (c : Thread nD τ)), src.view.read (Elt F) g = V ∧
      oPts (F := F) c k V = ((src.view.loc (c : Thread nD τ)) ↦[src.view.set]{fullShare} g) := by
    subst hsrc'
    exact ⟨lift3 V, slot_read obM (k % 2) offs hoffs inbs sq (lift3 V) _ rfl, oPts_slot c k hoffs V⟩
  have hR : ∀ f : Blk F, ∃ g : Buf (Elt F) (dst.view.loc (c : Thread nD τ)),
      ((∀ (r : Fin 4096) (j : Fin 4096) (i : Fin 512), r.val = 512 * k + i.val → f (ix2 r j) = V (ix2 i j)) → dst.view.read (Elt F) g = V) ∧
      oReg (F := F) c (512 * k) (512 * k + 512) f = ((dst.view.loc (c : Thread nD τ)) ↦[dst.view.set]{fullShare} g) := by
    subst hdst'
    refine fun f => ⟨f, out_read k hoffd f V, ?_⟩
    unfold oReg
    rw [← out_set k hoffd (inb := inbd) (hs := hs)]
  obtain ⟨gs, hgs, hPg⟩ := hP
  obtain ⟨g0, -, hR0⟩ := hR f0
  obtain ⟨g, hg, hRg⟩ := hR G
  rw [hR0, hRg, hPg]
  iintro ⟨Ho, Hr, HS⟩ Hk
  iapply (wp_dmaLocal EC 𝒱₀ (c : Thread nD τ) none () No hN No_pos (Finset.Subset.refl _)) $$ [Ho Hr HS]
  · isplitl [Ho]; · iexact Ho
    isplitl [Hr]; · iexact Hr
    iexact HS
  iintro HF
  iapply Hk
  iapply (Flight_mono EC (c : Thread nD τ) (sep_mono_left (Entails.of_eq (pointsTo_congr (write_eq_of_read dst.view g0 g _ ((hg hG).trans hgs.symm))))))
  iexact HF

end Cert.Stencil

end
-- ==== Proof.Trip.lean ====
/-
# The pipeline's states, and a trip's copies

Before trip `k` the copies of chunk `k` are under way, the other input slot is idle, and the output slots carry the chunks of
the two trips before, where there were such trips.
-/
module

public import proofs.«01_k».proof.Proof.Steps

@[expose] public section

noncomputable section

namespace Cert.Stencil

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]
local notation "𝕄" => MT nD τ sig Unit (Elt F) ℕ UU ℕ

variable (X : Dev nD → Blk F) (c : Dev nD)

/-- Run `A`, then go on. -/
theorem wp_seg {α β : Type} {A : Prog (TpuEff nD τ sig (Elt F) Λ₀ .tc) α} {kk : α → Prog (TpuEff nD τ sig (Elt F) Λ₀ .tc) β}
    {P : sProp 𝕄} {M : α → sProp 𝕄} {Q : β → sProp 𝕄}
    (h : P ⊢ wp frame (wpE defs₀ 𝒱₀ (c : Thread nD τ) none) Set.univ A M) :
    P ⊢ iprop((∀ a, M a -∗ wp frame (wpE defs₀ 𝒱₀ (c : Thread nD τ) none) Set.univ (kk a) Q)
      -∗ wp frame (wpE defs₀ 𝒱₀ (c : Thread nD τ) none) Set.univ (A >>= kk) Q) := by
  iintro HP Hk
  rw [wp_bind]
  iapply wp_wand_r $$ [HP Hk]
  isplitl [HP]
  · iapply h; iexact HP
  iexact Hk

/-! ## The states -/

/-- The input slot of chunk `k`, idle; -/
def Idle (k : ℕ) : sProp 𝕄 :=
  iprop(semVal ((c : Thread nD τ), .dma (sIn k)) 0 ∗ (∃ V, vPts (F := F) c k V) ∗ (∃ V, tPts (F := F) c k V) ∗ (∃ V, bPts (F := F) c k V))
/-- the received row, idle; -/
def HIdle : sProp 𝕄 :=
  iprop(rrPts c (rowIn X c) ∗ semVal ((c : Thread nD τ), .dma sH0) 0 ∗ semVal ((c : Thread nD τ), .dma sH1) 0)

def AMid : Fin 3 → ℕ := ![Nv, Nt, Nb]
def DMid (k : ℕ) : Fin 3 → sProp 𝕄 := ![vPts c k (xv X c k), tPts c k (xt X c k), bPts c k (xb X c k)]
def AFst : Fin 2 → ℕ := ![Nv, Nb]
def DFst : Fin 2 → sProp 𝕄 := ![vPts c 0 (xv X c 0), bPts c 0 (xb X c 0)]
def ALst : Fin 2 → ℕ := ![Nv, Nt]
def DLst : Fin 2 → sProp 𝕄 := ![vPts c 7 (xv X c 7), tPts c 7 (xt X c 7)]

/-- the copies of chunk `k`, under way: a middle chunk's, the first one's, the last one's. -/
def BMid (k : ℕ) : sProp 𝕄 := MixedBatch EC (c : Thread nD τ) (.dma (sIn k)) () AMid (DMid X c k) 3 0
def First : sProp 𝕄 :=
  iprop(MixedBatch EC (c : Thread nD τ) (.dma (sIn 0)) () AFst (DFst X c) 2 0
    ∗ Flight EC (c : Thread nD τ) (.dma sH0) () Nt iprop(tPts c 0 (rowIn X c) ∗ rrPts c (rowIn X c)) ∗ semVal ((c : Thread nD τ), .dma sH1) 0)
def Last : sProp 𝕄 :=
  iprop(MixedBatch EC (c : Thread nD τ) (.dma (sIn 7)) () ALst (DLst X c) 2 0
    ∗ Flight EC (c : Thread nD τ) (.dma sH1) () Nb iprop(bPts c 7 (rowIn X c) ∗ rrPts c (rowIn X c)) ∗ semVal ((c : Thread nD τ), .dma sH0) 0)

/-- The copies of chunk `k`, issued a trip ahead; -/
def Ahead (k : ℕ) : sProp 𝕄 := if k < 7 then BMid X c k else if k = 7 then Last X c else Idle c k
/-- the same before trip `k`; -/
def Arr (k : ℕ) : sProp 𝕄 := if k = 0 then First X c else Ahead X c k
/-- the received row idle, at the trips at which it is. -/
def HIf (p : Prop) [Decidable p] : sProp 𝕄 := if p then HIdle X c else iprop(emp)

theorem HIf_split (k : ℕ) : HIf X c (k ≠ 0 ∧ k ≠ 7) ⊢ iprop(HIf X c (k = 6) ∗ HIf X c (1 ≤ k ∧ k ≠ 6 ∧ k ≠ 7)) := by
  unfold HIf
  by_cases h6 : k = 6
  · rw [if_pos (by omega), if_pos h6, if_neg (by omega)]
    iintro H
    isplitl; · iexact H
    iempintro
  · rw [if_neg h6]
    by_cases h : 1 ≤ k ∧ k ≠ 6 ∧ k ≠ 7
    · rw [if_pos (by omega), if_pos h]
      iintro H
      isplitr; · iempintro
      iexact H
    · rw [if_neg h]
      iintro -
      isplitr <;> iempintro

theorem HIf_join (k : ℕ) (hk : k < 8) :
    iprop(HIf X c (1 ≤ k ∧ k ≠ 6 ∧ k ≠ 7) ∗ HIf X c (k = 0 ∨ k = 7)) ⊢ HIf X c (k + 1 ≠ 0 ∧ k + 1 ≠ 7) := by
  unfold HIf
  by_cases h6 : k = 6
  · rw [if_neg (show ¬ (k + 1 ≠ 0 ∧ k + 1 ≠ 7) by omega)]
    iintro -
    iempintro
  · rw [if_pos (show k + 1 ≠ 0 ∧ k + 1 ≠ 7 by omega)]
    by_cases h : 1 ≤ k ∧ k ≠ 6 ∧ k ≠ 7
    · rw [if_pos h]
      iintro ⟨H, -⟩
      iexact H
    · rw [if_pos (show k = 0 ∨ k = 7 by omega)]
      iintro ⟨-, H⟩
      iexact H

/-- Chunk `k` and its halo rows arrived. -/
def Ready (k : ℕ) : sProp 𝕄 :=
  iprop(vPts c k (xv X c k) ∗ tPts c k (xt X c k) ∗ bPts c k (xb X c k) ∗ semVal ((c : Thread nD τ), .dma (sIn k)) 0)

instance DMid_storable (k : ℕ) (t : Fin 3) : BI.Storable (upEmb : UEmb _ 𝕄) (DMid X c k t) := by
  unfold DMid
  match t with
  | 0 => exact vPts_storable c k _
  | 1 => exact tPts_storable c k _
  | 2 => exact bPts_storable c k _
instance DFst_storable (t : Fin 2) : BI.Storable (upEmb : UEmb _ 𝕄) (DFst X c t) := by
  unfold DFst
  match t with
  | 0 => exact vPts_storable c 0 _
  | 1 => exact bPts_storable c 0 _
instance DLst_storable (t : Fin 2) : BI.Storable (upEmb : UEmb _ 𝕄) (DLst X c t) := by
  unfold DLst
  match t with
  | 0 => exact vPts_storable c 7 _
  | 1 => exact tPts_storable c 7 _

theorem trips_lt (k : Fin k0_t1_loop.trips) : k.val < 8 := k.isLt

theorem c5 (k : Fin k0_t1_loop.trips) : k0_cond5 k = 1#1 ↔ k.val < 7 := by revert k; decide
theorem c6 (k : Fin k0_t1_loop.trips) : k0_cond6 k = 1#1 := by revert k; decide
theorem c7 (k : Fin k0_t1_loop.trips) : k0_cond7 k ≠ 1#1 := by revert k; decide
theorem c8 (k : Fin k0_t1_loop.trips) : k0_cond8 k = 1#1 ↔ k.val < 6 := by revert k; decide
theorem c9 (k : Fin k0_t1_loop.trips) : k0_cond9 k = 1#1 ↔ k.val = 6 := by revert k; decide
theorem c10 (k : Fin k0_t1_loop.trips) : k0_cond10 k = 1#1 ↔ k.val ≠ 0 := by revert k; decide
theorem c11 (k : Fin k0_t1_loop.trips) : k0_cond11 k = 1#1 ↔ k.val = 0 := by revert k; decide
theorem c12 (k : Fin k0_t1_loop.trips) : k0_cond12 k = 1#1 ↔ k.val ≠ 7 := by revert k; decide
theorem c13 (k : Fin k0_t1_loop.trips) : k0_cond13 k = 1#1 ↔ k.val = 7 := by revert k; decide
theorem c14 (k : Fin k0_t1_loop.trips) : k0_cond14 k = 1#1 ↔ 2 ≤ k.val := by revert k; decide

/-! ## A trip's first part, in three -/

/-- The copies of the next chunk. -/
def issue (k0_t1 : Fin k0_t1_loop.trips) : Prog (TpuEff nD τ sig (Elt F) Λ₀ .tc) PUnit :=
  if k0_h5 : k0_cond5 k0_t1 = 1#1 then do
    Prog.lift (.enqueueDma (xM.slice (Rect.unit (s := S4096x4096) (k0_off5 k0_t1) S512x4096.size (k0_off5_inb k0_t1 k0_h5)) (fun _ => rfl)) (.here ((vbM.slice (Rect.unit (s := S2x512x4096) (k0_off4 k0_t1) S1x512x4096.size (k0_off4_inb k0_t1 k0_h5)) (fun _ => rfl)).squeeze S512x4096 squeezes_S1x512x4096_S512x4096)) (.dma ((cc0_scratch10.slice (Rect.unit (s := S2) (k0_off3 k0_t1) S1.size (k0_off3_inb k0_t1 k0_h5))).squeeze S_ squeezes_S1_S_).sem) (View.wordExact_bits rfl) ((View.wordExact_bits rfl).reshape _ _) ⟨Or.inl rfl, trivial⟩)
    if k0_h6 : k0_cond6 k0_t1 = 1#1 then do
      Prog.lift (.enqueueDma (xM.slice (Rect.unit (s := S4096x4096) (k0_off8 k0_t1) S1x4096.size (k0_off8_inb k0_t1 k0_h5 k0_h6)) (fun _ => rfl)) (.here ((trM.slice (Rect.unit (s := S2x1x4096) (k0_off7 k0_t1) S1x1x4096.size (k0_off7_inb k0_t1 k0_h5 k0_h6)) (fun _ => rfl)).squeeze S1x4096 squeezes_S1x1x4096_S1x4096)) (.dma ((cc0_scratch10.slice (Rect.unit (s := S2) (k0_off6 k0_t1) S1.size (k0_off6_inb k0_t1 k0_h5 k0_h6))).squeeze S_ squeezes_S1_S_).sem) (View.wordExact_bits rfl) ((View.wordExact_bits rfl).reshape _ _) ⟨Or.inl rfl, trivial⟩)
      pure ⟨⟩
    else do
      pure ⟨⟩
    if k0_h7 : k0_cond7 k0_t1 = 1#1 then do
      Prog.lift (.enqueueDma rrM (.here ((trM.slice (Rect.unit (s := S2x1x4096) (k0_off9 k0_t1) S1x1x4096.size (k0_off9_inb k0_t1 k0_h5 k0_h7)) (fun _ => rfl)).squeeze S1x4096 squeezes_S1x1x4096_S1x4096)) (.dma ((cc0_scratch13.slice (Rect.unit (s := S2) ![0] S1.size inb_S2_S1_0)).squeeze S_ squeezes_S1_S_).sem) (Memref.isWhole_whole cc0_scratch4).wordExact ((View.wordExact_bits rfl).reshape _ _) ⟨Or.inl rfl, trivial⟩)
      pure ⟨⟩
    else do
      pure ⟨⟩
    if k0_h8 : k0_cond8 k0_t1 = 1#1 then do
      Prog.lift (.enqueueDma (xM.slice (Rect.unit (s := S4096x4096) (k0_off12 k0_t1) S1x4096.size (k0_off12_inb k0_t1 k0_h5 k0_h8)) (fun _ => rfl)) (.here ((brM.slice (Rect.unit (s := S2x1x4096) (k0_off11 k0_t1) S1x1x4096.size (k0_off11_inb k0_t1 k0_h5 k0_h8)) (fun _ => rfl)).squeeze S1x4096 squeezes_S1x1x4096_S1x4096)) (.dma ((cc0_scratch10.slice (Rect.unit (s := S2) (k0_off10 k0_t1) S1.size (k0_off10_inb k0_t1 k0_h5 k0_h8))).squeeze S_ squeezes_S1_S_).sem) (View.wordExact_bits rfl) ((View.wordExact_bits rfl).reshape _ _) ⟨Or.inl rfl, trivial⟩)
      pure ⟨⟩
    else do
      pure ⟨⟩
    if k0_h9 : k0_cond9 k0_t1 = 1#1 then do
      Prog.lift (.enqueueDma rrM (.here ((brM.slice (Rect.unit (s := S2x1x4096) (k0_off13 k0_t1) S1x1x4096.size (k0_off13_inb k0_t1 k0_h5 k0_h9)) (fun _ => rfl)).squeeze S1x4096 squeezes_S1x1x4096_S1x4096)) (.dma ((cc0_scratch13.slice (Rect.unit (s := S2) ![1] S1.size inb_S2_S1_1)).squeeze S_ squeezes_S1_S_).sem) (Memref.isWhole_whole cc0_scratch4).wordExact ((View.wordExact_bits rfl).reshape _ _) ⟨Or.inl rfl, trivial⟩)
      pure ⟨⟩
    else do
      pure ⟨⟩
    pure ⟨⟩
  else do
    pure ⟨⟩

/-- The next chunk's copies go out: into an idle slot, the received row's on its own semaphore. -/
theorem wp_issue (k : Fin k0_t1_loop.trips) :
    iprop(Idle (F := F) c (k.val + 1) ∗ HIf X c (k.val = 6) ∗ xAny X c)
      ⊢ wp frame (wpE defs₀ 𝒱₀ (c : Thread nD τ) none) Set.univ (issue k)
          (fun _ => iprop(Ahead X c (k.val + 1) ∗ xAny X c)) := by
  have hlt := trips_lt k
  unfold issue
  by_cases h7 : k.val = 7
  · have h5 : ¬ k0_cond5 k = 1#1 := fun h => by have := (c5 k).mp h; omega
    simp only [h5, ↓reduceDIte, h7]
    rw [Prog.pure_eq_ret, wp_ret]
    unfold Ahead
    rw [if_neg (by decide), if_neg (by decide)]
    iintro ⟨HI, -, HX⟩
    imodintro
    isplitl [HI]; · iexact HI
    iexact HX
  have e5 : k0_off5 k = ![512 * (k.val + 1), 0] := (k0_off5_eq k).trans (congrArg (fun n => ![n, 0]) (by omega))
  have e8 : k0_off8 k = ![512 * (k.val + 1) - 1, 0] := (k0_off8_eq k).trans (congrArg (fun n => ![n, 0]) (by omega))
  have e12 : k0_off12 k = ![512 * (k.val + 1 + 1), 0] := (k0_off12_eq k).trans (congrArg (fun n => ![n, 0]) (by omega))
  have h5 := (c5 k).mpr (by omega)
  have h6 := c6 k
  have h7' := c7 k
  by_cases h6' : k.val = 6
  · obtain rfl : k = ⟨6, by decide⟩ := Fin.ext h6'
    have h8 : ¬ k0_cond8 ⟨6, by decide⟩ = 1#1 := by decide
    have h9 := (c9 ⟨6, by decide⟩).mpr rfl
    simp only [h5, h6, h7', h8, h9, ↓reduceDIte, Prog.lift, Prog.bind_op, Prog.bind_ret, Prog.pure_eq_ret]
    unfold Idle HIf HIdle
    rw [if_pos trivial]
    iintro ⟨⟨HS, HV, HT, HB⟩, ⟨HR, H0, H1⟩, HX⟩
    imod (mixedBatch_alloc' EC (c : Thread nD τ) () ALst (DLst X c)) $$ HS with HM
    iapply (enq_v X c (A := ALst) (D := DLst X c) (6 + 1) Nat.zero_lt_two (Nat.zero_le _) (sem_in _ _ (k0_off3_eq _) _) e5 rfl (k0_off4_eq _) rfl rfl rfl) $$ [HX HV HM]
    · isplitl [HX]; · iexact HX
      isplitl [HV]; · iexact HV
      iexact HM
    iintro ⟨HX, HM⟩
    iapply (enq_t X c (A := ALst) (D := DLst X c) (6 + 1) (by decide) Nat.one_lt_two (Nat.zero_le _) (sem_in _ _ (k0_off6_eq _) _) e8 rfl (k0_off7_eq _) rfl rfl rfl) $$ [HX HT HM]
    · isplitl [HX]; · iexact HX
      isplitl [HT]; · iexact HT
      iexact HM
    iintro ⟨HX, HM⟩
    iapply (enq_rr_b c (6 + 1) (sm' := sH1) (by decide) (k0_off13_eq _) rfl (rowIn X c)) $$ [HR HB H1]
    · isplitl [HR]; · iexact HR
      isplitl [HB]; · iexact HB
      iexact H1
    iintro HF
    rw [wp_ret]
    unfold Ahead
    rw [if_neg (by decide), if_pos rfl]
    unfold Last
    imodintro
    isplitr [HX]
    · isplitl [HM]; · iexact HM
      isplitl [HF]; · iexact HF
      iexact H0
    iexact HX
  · have h8 := (c8 k).mpr (by omega)
    have h9 : ¬ k0_cond9 k = 1#1 := fun h => h6' ((c9 k).mp h)
    simp only [h5, h6, h7', h8, h9, ↓reduceDIte, Prog.lift, Prog.bind_op, Prog.bind_ret, Prog.pure_eq_ret]
    unfold Idle
    iintro ⟨⟨HS, HV, HT, HB⟩, -, HX⟩
    imod (mixedBatch_alloc' EC (c : Thread nD τ) () AMid (DMid X c (k.val + 1))) $$ HS with HM
    iapply (enq_v X c (A := AMid) (D := DMid X c (k.val + 1)) (k.val + 1) (show 0 < 3 by decide) (Nat.zero_le _) (sem_in _ _ (k0_off3_eq k) _) e5 rfl (k0_off4_eq k) rfl rfl rfl) $$ [HX HV HM]
    · isplitl [HX]; · iexact HX
      isplitl [HV]; · iexact HV
      iexact HM
    iintro ⟨HX, HM⟩
    iapply (enq_t X c (A := AMid) (D := DMid X c (k.val + 1)) (k.val + 1) (by omega) (show 1 < 3 by decide) (Nat.zero_le _) (sem_in _ _ (k0_off6_eq k) _) e8 rfl (k0_off7_eq k) rfl rfl rfl) $$ [HX HT HM]
    · isplitl [HX]; · iexact HX
      isplitl [HT]; · iexact HT
      iexact HM
    iintro ⟨HX, HM⟩
    iapply (enq_b X c (A := AMid) (D := DMid X c (k.val + 1)) (k.val + 1) (by omega) (show 2 < 3 by decide) (Nat.zero_le _) (sem_in _ _ (k0_off10_eq k) _) e12 rfl (k0_off11_eq k) rfl rfl rfl) $$ [HX HB HM]
    · isplitl [HX]; · iexact HX
      isplitl [HB]; · iexact HB
      iexact HM
    iintro ⟨HX, HM⟩
    rw [wp_ret]
    unfold Ahead
    rw [if_pos (by omega)]
    unfold BMid
    imodintro
    isplitl [HM]; · iexact HM
    iexact HX

/-! ## The waits -/

/-- The waits of the trip's copies in. -/
def takeIn (k0_t1 : Fin k0_t1_loop.trips) : Prog (TpuEff nD τ sig (Elt F) Λ₀ .tc) PUnit := do
  Prog.lift (.waitDma2 ((cc0_scratch10.slice (Rect.unit (s := S2) (k0_off14 k0_t1) S1.size (k0_off14_inb k0_t1))).squeeze S_ squeezes_S1_S_).sem ((vbM.slice (Rect.unit (s := S2x512x4096) (k0_off15 k0_t1) S1x512x4096.size (k0_off15_inb k0_t1)) (fun _ => rfl)).squeeze S512x4096 squeezes_S1x512x4096_S512x4096) ((vbM.slice (Rect.unit (s := S2x512x4096) (k0_off15 k0_t1) S1x512x4096.size (k0_off15_inb k0_t1)) (fun _ => rfl)).squeeze S512x4096 squeezes_S1x512x4096_S512x4096) ((View.wordExact_bits rfl).reshape _ _) ((View.wordExact_bits rfl).reshape _ _))
  if k0_h10 : k0_cond10 k0_t1 = 1#1 then do
    Prog.lift (.waitDma2 ((cc0_scratch10.slice (Rect.unit (s := S2) (k0_off16 k0_t1) S1.size (k0_off16_inb k0_t1 k0_h10))).squeeze S_ squeezes_S1_S_).sem ((trM.slice (Rect.unit (s := S2x1x4096) (k0_off17 k0_t1) S1x1x4096.size (k0_off17_inb k0_t1 k0_h10)) (fun _ => rfl)).squeeze S1x4096 squeezes_S1x1x4096_S1x4096) ((trM.slice (Rect.unit (s := S2x1x4096) (k0_off17 k0_t1) S1x1x4096.size (k0_off17_inb k0_t1 k0_h10)) (fun _ => rfl)).squeeze S1x4096 squeezes_S1x1x4096_S1x4096) ((View.wordExact_bits rfl).reshape _ _) ((View.wordExact_bits rfl).reshape _ _))
    pure ⟨⟩
  else do
    pure ⟨⟩
  if k0_h11 : k0_cond11 k0_t1 = 1#1 then do
    Prog.lift (.waitDma2 ((cc0_scratch13.slice (Rect.unit (s := S2) ![0] S1.size inb_S2_S1_0)).squeeze S_ squeezes_S1_S_).sem ((trM.slice (Rect.unit (s := S2x1x4096) (k0_off18 k0_t1) S1x1x4096.size (k0_off18_inb k0_t1 k0_h11)) (fun _ => rfl)).squeeze S1x4096 squeezes_S1x1x4096_S1x4096) ((trM.slice (Rect.unit (s := S2x1x4096) (k0_off18 k0_t1) S1x1x4096.size (k0_off18_inb k0_t1 k0_h11)) (fun _ => rfl)).squeeze S1x4096 squeezes_S1x1x4096_S1x4096) ((View.wordExact_bits rfl).reshape _ _) ((View.wordExact_bits rfl).reshape _ _))
    pure ⟨⟩
  else do
    pure ⟨⟩
  if k0_h12 : k0_cond12 k0_t1 = 1#1 then do
    Prog.lift (.waitDma2 ((cc0_scratch10.slice (Rect.unit (s := S2) (k0_off19 k0_t1) S1.size (k0_off19_inb k0_t1 k0_h12))).squeeze S_ squeezes_S1_S_).sem ((brM.slice (Rect.unit (s := S2x1x4096) (k0_off20 k0_t1) S1x1x4096.size (k0_off20_inb k0_t1 k0_h12)) (fun _ => rfl)).squeeze S1x4096 squeezes_S1x1x4096_S1x4096) ((brM.slice (Rect.unit (s := S2x1x4096) (k0_off20 k0_t1) S1x1x4096.size (k0_off20_inb k0_t1 k0_h12)) (fun _ => rfl)).squeeze S1x4096 squeezes_S1x1x4096_S1x4096) ((View.wordExact_bits rfl).reshape _ _) ((View.wordExact_bits rfl).reshape _ _))
    pure ⟨⟩
  else do
    pure ⟨⟩
  if k0_h13 : k0_cond13 k0_t1 = 1#1 then do
    Prog.lift (.waitDma2 ((cc0_scratch13.slice (Rect.unit (s := S2) ![1] S1.size inb_S2_S1_1)).squeeze S_ squeezes_S1_S_).sem ((brM.slice (Rect.unit (s := S2x1x4096) (k0_off21 k0_t1) S1x1x4096.size (k0_off21_inb k0_t1 k0_h13)) (fun _ => rfl)).squeeze S1x4096 squeezes_S1x1x4096_S1x4096) ((brM.slice (Rect.unit (s := S2x1x4096) (k0_off21 k0_t1) S1x1x4096.size (k0_off21_inb k0_t1 k0_h13)) (fun _ => rfl)).squeeze S1x4096 squeezes_S1x1x4096_S1x4096) ((View.wordExact_bits rfl).reshape _ _) ((View.wordExact_bits rfl).reshape _ _))
    pure ⟨⟩
  else do
    pure ⟨⟩
  pure ⟨⟩

/-- The wait of the output slot, and the load of the chunk. -/
def takeOut (c0_i32_68 c1_i32_69 : BitVec 32) (k0_t1 : Fin k0_t1_loop.trips) : Prog (TpuEff nD τ sig (Elt F) Λ₀ .tc) (Σ' (arg16 : BitVec 32) (v97 : BitVec 32) (v123 : BitVec 32) (v126 : FVec F S512x4096 .f32) (v127 : FVec F S512x4096 .bf16), BitVec 32) := do
  if k0_h14 : k0_cond14 k0_t1 = 1#1 then do
    Prog.lift (.waitDma2 ((cc0_scratch11.slice (Rect.unit (s := S2) (k0_off22 k0_t1) S1.size (k0_off22_inb k0_t1 k0_h14))).squeeze S_ squeezes_S1_S_).sem ((obM.slice (Rect.unit (s := S2x512x4096) (k0_off23 k0_t1) S1x512x4096.size (k0_off23_inb k0_t1 k0_h14)) (fun _ => rfl)).squeeze S512x4096 squeezes_S1x512x4096_S512x4096) ((obM.slice (Rect.unit (s := S2x512x4096) (k0_off23 k0_t1) S1x512x4096.size (k0_off23_inb k0_t1 k0_h14)) (fun _ => rfl)).squeeze S512x4096 squeezes_S1x512x4096_S512x4096) ((View.wordExact_bits rfl).reshape _ _) ((View.wordExact_bits rfl).reshape _ _))
    pure ⟨⟩
  else do
    pure ⟨⟩
  let v125 : Vec F S1x512x4096 .f32 ← Prog.lift (.load vbM (Rect.unit (s := S2x512x4096) (k0_off24 k0_t1) S1x512x4096.size (k0_off24_inb k0_t1)).toLoadRect (View.loadsAt_vmem h_S1x512x4096))
  pure ⟨Scf.iv c0_i32_68 c1_i32_69 k0_t1, Scalar.remsi (Scf.iv c0_i32_68 c1_i32_69 k0_t1) 2#32, Scalar.muli (Scf.iv c0_i32_68 c1_i32_69 k0_t1) 512#32, k0_pay2 v125, k0_pay3 v125, 1#32⟩

/-- The first part of a trip on the kernel's buffers. -/
abbrev part1 (c0_i32_68 c1_i32_69 : BitVec 32) (k : Fin k0_t1_loop.trips) :=
  k0_part1 (F := F) xM (Memref.isWhole_whole _) oM (Memref.isWhole_whole _) vbM (Memref.isWhole_whole _) obM (Memref.isWhole_whole _) trM (Memref.isWhole_whole _) brM (Memref.isWhole_whole _) rrM (Memref.isWhole_whole _) cbM (Memref.isWhole_whole _) scM (Memref.isWhole_whole _) rcM (Memref.isWhole_whole _) cc0_scratch8 cc0_scratch9 cc0_scratch10 cc0_scratch11 cc0_scratch12 cc0_scratch13 c0_i32_68 c1_i32_69 k

/-- It is the three in turn. -/
theorem part1_eq (c0_i32_68 c1_i32_69 : BitVec 32) (k : Fin k0_t1_loop.trips) :
    part1 (F := F) c0_i32_68 c1_i32_69 k = (issue k >>= fun _ => takeIn k >>= fun _ => takeOut c0_i32_68 c1_i32_69 k) := by
  have hb : ∀ {α β : Type} {p : Prop} [Decidable p] (A : p → Prog (TpuEff nD τ sig (Elt F) Λ₀ .tc) α) (B : ¬ p → Prog (TpuEff nD τ sig (Elt F) Λ₀ .tc) α)
      (kk : α → Prog (TpuEff nD τ sig (Elt F) Λ₀ .tc) β), ((if h : p then A h else B h) >>= kk) = if h : p then A h >>= kk else B h >>= kk := by
    intros; split <;> rfl
  unfold part1
  simp only [k0_part1_eq_skeleton]
  unfold k0_part1_skel issue takeIn takeOut
  simp only [hb, Prog.lift, Prog.bind_op, Prog.bind_ret, Prog.pure_eq_ret]

theorem fst_sum : sumTo AFst 2 = Nv + Nb := by unfold AFst; simp [sumTo_succ, sumTo_zero, Nat.add_assoc]
theorem lst_sum : sumTo ALst 2 = Nv + Nt := by unfold ALst; simp [sumTo_succ, sumTo_zero, Nat.add_assoc]
theorem mid_sum : sumTo AMid 3 = Nv + Nt + Nb := by unfold AMid; simp [sumTo_succ, sumTo_zero, Nat.add_assoc]

theorem AFst_pos (t : Fin 2) : 0 < AFst t := by
  match t with
  | 0 => exact Nv_pos
  | 1 => exact Nb_pos
theorem ALst_pos (t : Fin 2) : 0 < ALst t := by
  match t with
  | 0 => exact Nv_pos
  | 1 => exact Nt_pos
theorem AMid_pos (t : Fin 3) : 0 < AMid t := by
  match t with
  | 0 => exact Nv_pos
  | 1 => exact Nt_pos
  | 2 => exact Nb_pos

theorem DMid_all (k : ℕ) : bigSep Finset.univ (DMid X c k) = iprop(vPts c k (xv X c k) ∗ tPts c k (xt X c k) ∗ bPts c k (xb X c k)) := by
  rw [bigSep_univ_eq_bigSepL [0, 1, 2] (by decide) (by decide), bigSepL_cons_cons, bigSepL_cons_cons, bigSepL_singleton]; rfl
theorem DFst_all : bigSep Finset.univ (DFst X c) = iprop(vPts c 0 (xv X c 0) ∗ bPts c 0 (xb X c 0)) := by
  rw [bigSep_univ_eq_bigSepL [0, 1] (by decide) (by decide), bigSepL_cons_cons, bigSepL_singleton]; rfl
theorem DLst_all : bigSep Finset.univ (DLst X c) = iprop(vPts c 7 (xv X c 7) ∗ tPts c 7 (xt X c 7)) := by
  rw [bigSep_univ_eq_bigSepL [0, 1] (by decide) (by decide), bigSepL_cons_cons, bigSepL_singleton]; rfl

/-- The chunk and its halo rows arrive. -/
theorem wp_takeIn (k : Fin k0_t1_loop.trips) :
    iprop(Arr X c k.val ∗ ∃ W, owes (c : Thread nD τ) 0 W)
      ⊢ wp frame (wpE defs₀ 𝒱₀ (c : Thread nD τ) none) Set.univ (takeIn k)
          (fun _ => iprop(Ready X c k.val ∗ HIf X c (k.val = 0 ∨ k.val = 7) ∗ ∃ W, owes (c : Thread nD τ) 0 W)) := by
  have hlt := trips_lt k
  unfold takeIn
  by_cases h0 : k.val = 0
  · obtain rfl : k = ⟨0, by decide⟩ := Fin.ext h0
    have h10 : ¬ k0_cond10 ⟨0, by decide⟩ = 1#1 := by decide
    have h11 := (c11 ⟨0, by decide⟩).mpr rfl
    have h12 := (c12 ⟨0, by decide⟩).mpr (by decide)
    have h13 : ¬ k0_cond13 ⟨0, by decide⟩ = 1#1 := by decide
    simp only [h10, h11, h12, h13, ↓reduceDIte, Prog.lift, Prog.bind_op, Prog.bind_ret, Prog.pure_eq_ret]
    unfold Arr First HIf HIdle Ready
    rw [if_pos rfl, if_pos (.inl trivial)]
    iintro ⟨⟨HM, HF, H1⟩, HO⟩
    iapply (wait_more c (A := AFst) (j := 2) (u := 0) (D := DFst X c) 0 (sem_in _ _ (k0_off14_eq _) _) (J := Nv) rfl (by rw [fst_sum]; exact (Nat.zero_add Nv).trans_le (Nat.le_add_right Nv Nb))) $$ [HM HO]
    · isplitl [HM]; · iexact HM
      iexact HO
    iintro ⟨HM, HO⟩
    iapply (wait_one c (sm' := sH0) (by decide) (J := Nt) rfl) $$ [HF HO]
    · isplitl [HF]; · iexact HF
      iexact HO
    iintro ⟨⟨HT, HR⟩, H0, HO⟩
    iapply (wait_last c (A := AFst) (u := 0 + Nv) (D := DFst X c) 0 (sem_in _ _ (k0_off19_eq _) _) (J := Nb) rfl AFst_pos (by rw [fst_sum, Nat.zero_add])) $$ [HM HO]
    · isplitl [HM]; · iexact HM
      iexact HO
    iintro ⟨HD, HS, HO⟩
    ihave HD := (Entails.of_eq (DFst_all X c)) $$ HD
    icases HD with ⟨HV, HB⟩
    rw [wp_ret]
    imodintro
    isplitl [HV HT HB HS]
    · isplitl [HV]; · iexact HV
      isplitl [HT]; · iexact HT
      isplitl [HB]; · iexact HB
      iexact HS
    isplitl [HR H0 H1]
    · isplitl [HR]; · iexact HR
      isplitl [H0]; · iexact H0
      iexact H1
    iexact HO
  have h10 := (c10 k).mpr h0
  have h11 : ¬ k0_cond11 k = 1#1 := fun h => h0 ((c11 k).mp h)
  by_cases h7 : k.val = 7
  · obtain rfl : k = ⟨7, by decide⟩ := Fin.ext h7
    have h12 : ¬ k0_cond12 ⟨7, by decide⟩ = 1#1 := by decide
    have h13 := (c13 ⟨7, by decide⟩).mpr rfl
    simp only [h10, h11, h12, h13, ↓reduceDIte, Prog.lift, Prog.bind_op, Prog.bind_ret, Prog.pure_eq_ret]
    unfold Arr Ahead Last HIf HIdle Ready
    rw [if_neg (by decide), if_neg (by decide), if_pos rfl, if_pos (.inr trivial)]
    iintro ⟨⟨HM, HF, H0⟩, HO⟩
    iapply (wait_more c (A := ALst) (j := 2) (u := 0) (D := DLst X c) 7 (sem_in _ _ (k0_off14_eq _) _) (J := Nv) rfl (by rw [lst_sum]; exact (Nat.zero_add Nv).trans_le (Nat.le_add_right Nv Nt))) $$ [HM HO]
    · isplitl [HM]; · iexact HM
      iexact HO
    iintro ⟨HM, HO⟩
    iapply (wait_last c (A := ALst) (u := 0 + Nv) (D := DLst X c) 7 (sem_in _ _ (k0_off16_eq _) _) (J := Nt) rfl ALst_pos (by rw [lst_sum, Nat.zero_add])) $$ [HM HO]
    · isplitl [HM]; · iexact HM
      iexact HO
    iintro ⟨HD, HS, HO⟩
    ihave HD := (Entails.of_eq (DLst_all X c)) $$ HD
    icases HD with ⟨HV, HT⟩
    iapply (wait_one c (sm' := sH1) (by decide) (J := Nb) rfl) $$ [HF HO]
    · isplitl [HF]; · iexact HF
      iexact HO
    iintro ⟨⟨HB, HR⟩, H1, HO⟩
    rw [wp_ret]
    imodintro
    isplitl [HV HT HB HS]
    · isplitl [HV]; · iexact HV
      isplitl [HT]; · iexact HT
      isplitl [HB]; · iexact HB
      iexact HS
    isplitl [HR H0 H1]
    · isplitl [HR]; · iexact HR
      isplitl [H0]; · iexact H0
      iexact H1
    iexact HO
  · have h12 := (c12 k).mpr h7
    have h13 : ¬ k0_cond13 k = 1#1 := fun h => h7 ((c13 k).mp h)
    simp only [h10, h11, h12, h13, ↓reduceDIte, Prog.lift, Prog.bind_op, Prog.bind_ret, Prog.pure_eq_ret]
    unfold Arr Ahead BMid HIf Ready
    rw [if_neg h0, if_pos (by omega), if_neg (by omega)]
    iintro ⟨HM, HO⟩
    iapply (wait_more c (A := AMid) (j := 3) (u := 0) (D := DMid X c k.val) k.val (sem_in _ _ (k0_off14_eq _) _) (J := Nv) rfl (by rw [mid_sum, Nat.zero_add, Nat.add_assoc]; exact Nat.le_add_right _ _)) $$ [HM HO]
    · isplitl [HM]; · iexact HM
      iexact HO
    iintro ⟨HM, HO⟩
    iapply (wait_more c (A := AMid) (j := 3) (u := 0 + Nv) (D := DMid X c k.val) k.val (sem_in _ _ (k0_off16_eq _) _) (J := Nt) rfl (by rw [mid_sum, Nat.zero_add]; exact Nat.le_add_right _ _)) $$ [HM HO]
    · isplitl [HM]; · iexact HM
      iexact HO
    iintro ⟨HM, HO⟩
    iapply (wait_last c (A := AMid) (u := 0 + Nv + Nt) (D := DMid X c k.val) k.val (sem_in _ _ (k0_off19_eq _) _) (J := Nb) rfl AMid_pos (by rw [mid_sum, Nat.zero_add])) $$ [HM HO]
    · isplitl [HM]; · iexact HM
      iexact HO
    iintro ⟨HD, HS, HO⟩
    ihave HD := (Entails.of_eq (DMid_all X c k.val)) $$ HD
    icases HD with ⟨HV, HT, HB⟩
    rw [wp_ret]
    imodintro
    isplitl [HV HT HB HS]
    · isplitl [HV]; · iexact HV
      isplitl [HT]; · iexact HT
      isplitl [HB]; · iexact HB
      iexact HS
    isplitr
    · iempintro
    iexact HO

/-! ## What a trip computes -/

/-- The chunk as loaded, its rounded copy, the halo rows, and the two columns' and the two rows' new values; -/
def vC (k : ℕ) : FVec F S512x4096 .f32 := k0_pay2 (blk3 (xv X c k))
def vT (k : ℕ) : FVec F S1x4096 .f32 := k0_pay5 (blk3 (xt X c k))
def vB (k : ℕ) : FVec F S1x4096 .f32 := k0_pay6 (blk3 (xb X c k))
def vTop (k : ℕ) : FVec F S1x4096 .f32 :=
  k0_pay7 (vC X c k) (blk3 (xt X c k)) (ldCol 1 (512 * k) (colIn X c)) (ldCol 1 (512 * k) (colIn X c))

/-- the output slot after the chunk's interior; -/
def oIn (k : ℕ) : S512x4096.Idx → Elt F .f32 := setBlk 0 0 (k0_pay4 (k0_pay3 (blk3 (xv X c k))) 1#32) (xv X c k)
/-- its first and last row; -/
def oRows (k : ℕ) : S512x4096.Idx → Elt F .f32 :=
  setBlk 511 0 (k0_pay9 (vC X c k) (vB X c k) (ldCol 1 (512 * k + 511) (colIn X c)) (ldCol 1 (512 * k + 511) (colIn X c)))
    (setBlk 0 0 (k0_pay8 (vTop X c k)) (oIn X c k))
/-- its first and last column; -/
def oCols (k : ℕ) : S512x4096.Idx → Elt F .f32 :=
  setBlk 0 4095 (k0_pay14 (vC X c k) (vT X c k) (vB X c k) (ldCol 512 (512 * k) (colIn X c)))
    (setBlk 0 0 (k0_pay13 (k0_pay10 (vC X c k)) (k0_pay11 (vC X c k) (vT X c k) (vB X c k) (ldCol 512 (512 * k) (colIn X c))) k0_pay12)
      (oRows X c k))
/-- the array's border columns put back; -/
def oEdgeL (k : ℕ) : S512x4096.Idx → Elt F .f32 := if c.val % 2 = 0 then setBlk 0 0 (k0_pay15 (vC X c k)) (oCols X c k) else oCols X c k
def oEdgeR (k : ℕ) : S512x4096.Idx → Elt F .f32 := if c.val % 2 = 1 then setBlk 0 4095 (k0_pay16 (vC X c k)) (oEdgeL X c k) else oEdgeL X c k
/-- the array's border rows put back. -/
def oEdgeT (k : ℕ) : S512x4096.Idx → Elt F .f32 :=
  if c.val / 2 = 0 ∧ k = 0 then setBlk 0 0 (k0_pay17 (vC X c k)) (oEdgeR X c k) else oEdgeR X c k
def outV (k : ℕ) : S512x4096.Idx → Elt F .f32 :=
  if c.val / 2 = 1 ∧ k = 7 then setBlk 511 0 (k0_pay1 (vC X c k)) (oEdgeT X c k) else oEdgeT X c k

/-- The device's block of the result. -/
def G : Blk F := fun i => outV X c ((i 0).val / 512) (ix2 ⟨(i 0).val % 512, Nat.mod_lt _ (by decide)⟩ (i 1))

theorem G_chunk (k : ℕ) (r : Fin 4096) (j : Fin 4096) (i : Fin 512) (h : r.val = 512 * k + i.val) : G X c (ix2 r j) = outV X c k (ix2 i j) := by
  unfold G
  have h1 : ((ix2 r j : S4096x4096.Idx) 0).val / 512 = k := by show r.val / 512 = k; omega
  have h2 : (⟨((ix2 r j : S4096x4096.Idx) 0).val % 512, Nat.mod_lt _ (by decide)⟩ : Fin 512) = i := by
    apply Fin.ext; show r.val % 512 = i.val; omega
  rw [h1, h2]

/-! ## The output slots -/

def OFree (k : ℕ) : sProp 𝕄 := iprop((∃ V, oPts (F := F) c k V) ∗ semVal ((c : Thread nD τ), .dma (sOut k)) 0)
/-- Chunk `k`'s copy out, in flight. -/
def OFly (k : ℕ) : sProp 𝕄 :=
  Flight EC (c : Thread nD τ) (.dma (sOut k)) () No iprop(oReg c (512 * k) (512 * k + 512) (G X c) ∗ oPts c k (outV X c k))
/-- The output slot of chunk `k` before trip `k` waits for it. -/
def OSlot (k : ℕ) : sProp 𝕄 := if k < 2 then OFree c k else OFly X c (k - 2)
/-- The rows whose copies out have been waited for before trip `k`. -/
def Done (k : ℕ) : sProp 𝕄 := oReg c 0 (512 * (k - 2)) (G X c)

theorem oFree_of (k : ℕ) (V) : iprop(oPts (F := F) c k V ∗ semVal ((c : Thread nD τ), .dma (sOut k)) 0) ⊢ OFree (F := F) c (k + 2) := by
  unfold OFree
  rw [sOut_add_two]
  unfold oPts
  rw [Nat.add_mod_right]
  iintro ⟨H, HS⟩
  isplitl [H]
  · iexists _; iexact H
  iexact HS

/-- The output slot is free, and the chunk is loaded. -/
theorem wp_takeOut (c0 c1 : BitVec 32) (k : Fin k0_t1_loop.trips) :
    iprop(OSlot X c k.val ∗ Done X c k.val ∗ vPts c k.val (xv X c k.val) ∗ ∃ W, owes (c : Thread nD τ) 0 W)
      ⊢ wp frame (wpE defs₀ 𝒱₀ (c : Thread nD τ) none) Set.univ (takeOut c0 c1 k)
          (fun r => iprop(⌜r.2.2.2.1 = vC X c k.val ∧ r.2.2.2.2.1 = k0_pay3 (blk3 (xv X c k.val)) ∧ r.2.2.2.2.2 = 1#32⌝
            ∗ OFree c k.val ∗ Done X c (k.val + 1) ∗ vPts c k.val (xv X c k.val) ∗ ∃ W, owes (c : Thread nD τ) 0 W)) := by
  have hlt := trips_lt k
  unfold takeOut
  by_cases h2 : 2 ≤ k.val
  · have h14 := (c14 k).mpr h2
    obtain ⟨j, hj⟩ : ∃ j, k.val = j + 2 := ⟨k.val - 2, by omega⟩
    have es : k0_off22 k = ![j % 2] := (k0_off22_eq k).trans (congrArg (fun n => ![n]) (by omega))
    simp only [h14, ↓reduceDIte, Prog.lift, Prog.bind_op, Prog.bind_ret, Prog.pure_eq_ret]
    unfold OSlot Done OFly
    rw [if_neg (by omega), show k.val - 2 = j by omega, show k.val + 1 - 2 = j + 1 by omega]
    iintro ⟨HF, HD, HV, HO⟩
    iapply (wait_one c (sm' := sOut j) (sem_out _ _ es _) (J := No) rfl) $$ [HF HO]
    · isplitl [HF]; · iexact HF
      iexact HO
    iintro ⟨⟨HR, HP⟩, HS, HO⟩
    iapply (load_v c k.val (k0_off24_eq k) (xv X c k.val)) $$ [HV]
    · iexact HV
    iintro HV
    rw [wp_ret]
    imodintro
    isplitr
    · ipureintro; exact ⟨rfl, rfl, rfl⟩
    isplitl [HP HS]
    · rw [hj]
      iapply (oFree_of c j (outV X c j))
      isplitl [HP]; · iexact HP
      iexact HS
    isplitl [HD HR]
    · iapply (oReg_join c 0 (512 * j) (512 * (j + 1)) (Nat.zero_le _) (by omega) (G X c))
      isplitl [HD]; · iexact HD
      iexact HR
    isplitl [HV]; · iexact HV
    iexact HO
  · have h14 : ¬ k0_cond14 k = 1#1 := fun h => h2 ((c14 k).mp h)
    simp only [h14, ↓reduceDIte, Prog.lift, Prog.bind_op, Prog.bind_ret, Prog.pure_eq_ret]
    unfold OSlot Done
    rw [if_pos (by omega), show k.val - 2 = 0 by omega, show k.val + 1 - 2 = 0 by omega]
    iintro ⟨HF, HD, HV, HO⟩
    iapply (load_v c k.val (k0_off24_eq k) (xv X c k.val)) $$ [HV]
    · iexact HV
    iintro HV
    rw [wp_ret]
    imodintro
    isplitr
    · ipureintro; exact ⟨rfl, rfl, rfl⟩
    isplitl [HF]; · iexact HF
    isplitl [HD]; · iexact HD
    isplitl [HV]; · iexact HV
    iexact HO

/-- Before trip `k`'s first part, and after it. -/
def Pre1 (k : ℕ) : sProp 𝕄 :=
  iprop(Arr X c k ∗ HIf X c (k ≠ 0 ∧ k ≠ 7) ∗ Idle c (k + 1) ∗ OSlot X c k ∗ Done X c k ∗ xAny X c ∗ ∃ W, owes (c : Thread nD τ) 0 W)
def Post1 (k : ℕ) : sProp 𝕄 :=
  iprop(Ready X c k ∗ Arr X c (k + 1) ∗ HIf X c (k + 1 ≠ 0 ∧ k + 1 ≠ 7) ∗ OFree c k ∗ Done X c (k + 1) ∗ xAny X c ∗ ∃ W, owes (c : Thread nD τ) 0 W)

theorem wp_part1 (c0 c1 : BitVec 32) (k : Fin k0_t1_loop.trips) :
    Pre1 X c k.val ⊢ wp frame (wpE defs₀ 𝒱₀ (c : Thread nD τ) none) Set.univ (part1 c0 c1 k)
      (fun r => iprop(⌜r.2.2.2.1 = vC X c k.val ∧ r.2.2.2.2.1 = k0_pay3 (blk3 (xv X c k.val)) ∧ r.2.2.2.2.2 = 1#32⌝ ∗ Post1 X c k.val)) := by
  have hlt := trips_lt k
  rw [part1_eq]
  unfold Pre1 Post1
  iintro ⟨HA, HH, HI, HOS, HD, HX, HO⟩
  ihave HH := (HIf_split X c k.val) $$ HH
  icases HH with ⟨H6, HK⟩
  iapply (wp_seg c (wp_issue X c k)) $$ [HI H6 HX]
  · isplitl [HI]; · iexact HI
    isplitl [H6]; · iexact H6
    iexact HX
  iintro %_ ⟨HN, HX⟩
  iapply (wp_seg c (wp_takeIn X c k)) $$ [HA HO]
  · isplitl [HA]; · iexact HA
    iexact HO
  iintro %_ ⟨HR, HG, HO⟩
  unfold Ready
  icases HR with ⟨HV, HT, HB, HS⟩
  iapply (wp_wand_r) $$ [HOS HD HV HO HT HB HS HG HK HN HX]
  isplitl [HOS HD HV HO]
  · iapply (wp_takeOut X c c0 c1 k)
    isplitl [HOS]; · iexact HOS
    isplitl [HD]; · iexact HD
    isplitl [HV]; · iexact HV
    iexact HO
  iintro %r ⟨%hr, HF, HD, HV, HO⟩
  isplitr
  · ipureintro; exact hr
  isplitl [HV HT HB HS]
  · isplitl [HV]; · iexact HV
    isplitl [HT]; · iexact HT
    isplitl [HB]; · iexact HB
    iexact HS
  isplitl [HN]
  · unfold Arr; rw [if_neg (Nat.succ_ne_zero _)]; iexact HN
  isplitl [HK HG]
  · iapply (HIf_join X c k.val hlt)
    isplitl [HK]; · iexact HK
    iexact HG
  isplitl [HF]; · iexact HF
  isplitl [HD]; · iexact HD
  isplitl [HX]; · iexact HX
  iexact HO

end Cert.Stencil

end
-- ==== Proof.Parts.lean ====
/-
# A trip's stores, the trip, and the loop's invariant
-/
module

public import proofs.«01_k».proof.Proof.Trip

@[expose] public section

noncomputable section

namespace Cert.Stencil

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]
local notation "𝕄" => MT nD τ sig Unit (Elt F) ℕ UU ℕ

variable (X : Dev nD → Blk F) (c : Dev nD)

/-! ## The trip's other parts -/

abbrev part2 (k : Fin k0_t1_loop.trips) (v97 v123 : BitVec 32) (v126 : FVec F S512x4096 .f32) (v127 : FVec F S512x4096 .bf16) (c1 : BitVec 32) :=
  k0_part2 (F := F) xM (Memref.isWhole_whole _) oM (Memref.isWhole_whole _) vbM (Memref.isWhole_whole _) obM (Memref.isWhole_whole _) trM (Memref.isWhole_whole _) brM (Memref.isWhole_whole _) rrM (Memref.isWhole_whole _) cbM (Memref.isWhole_whole _) scM (Memref.isWhole_whole _) rcM (Memref.isWhole_whole _) cc0_scratch8 cc0_scratch9 cc0_scratch10 cc0_scratch11 cc0_scratch12 cc0_scratch13 k v97 v123 v126 v127 c1
abbrev part3 (k : Fin k0_t1_loop.trips) (v97 v123 : BitVec 32) (v126 : FVec F S512x4096 .f32) (v147 v150 v168 : FVec F S1x4096 .f32) :=
  k0_part3 (F := F) xM (Memref.isWhole_whole _) oM (Memref.isWhole_whole _) vbM (Memref.isWhole_whole _) obM (Memref.isWhole_whole _) trM (Memref.isWhole_whole _) brM (Memref.isWhole_whole _) rrM (Memref.isWhole_whole _) cbM (Memref.isWhole_whole _) scM (Memref.isWhole_whole _) rcM (Memref.isWhole_whole _) cc0_scratch8 cc0_scratch9 cc0_scratch10 cc0_scratch11 cc0_scratch12 cc0_scratch13 k v97 v123 v126 v147 v150 v168
abbrev part4 (d0 : Dev nD) (v2 v5 : BitVec 32) (k : Fin k0_t1_loop.trips) (a v97 : BitVec 32) (v126 : FVec F S512x4096 .f32) (v147 v150 : FVec F S1x4096 .f32) (v200 : Vec F S512x1 .f32) (v209 v213 v214 : FVec F S512x1 .f32) :=
  k0_part4 (F := F) xM (Memref.isWhole_whole _) oM (Memref.isWhole_whole _) vbM (Memref.isWhole_whole _) obM (Memref.isWhole_whole _) trM (Memref.isWhole_whole _) brM (Memref.isWhole_whole _) rrM (Memref.isWhole_whole _) cbM (Memref.isWhole_whole _) scM (Memref.isWhole_whole _) rcM (Memref.isWhole_whole _) cc0_scratch8 cc0_scratch9 cc0_scratch10 cc0_scratch11 cc0_scratch12 cc0_scratch13 d0 v2 v5 k a v97 v126 v147 v150 v200 v209 v213 v214
abbrev tripP (d0 : Dev nD) (v2 v5 c0 c1 : BitVec 32) :=
  k0_t1_body (F := F) xM (Memref.isWhole_whole _) oM (Memref.isWhole_whole _) vbM (Memref.isWhole_whole _) obM (Memref.isWhole_whole _) trM (Memref.isWhole_whole _) brM (Memref.isWhole_whole _) rrM (Memref.isWhole_whole _) cbM (Memref.isWhole_whole _) scM (Memref.isWhole_whole _) rcM (Memref.isWhole_whole _) cc0_scratch8 cc0_scratch9 cc0_scratch10 cc0_scratch11 cc0_scratch12 cc0_scratch13 d0 v2 v5 c0 c1

/-- A block as large as the slot leaves nothing of what was there. -/
theorem setBlk_full (w : (Sh3 1 512 4096).Idx → Elt F .f32) (V V' : S512x4096.Idx → Elt F .f32) :
    (setBlk 0 0 w V : (Sh2 512 4096).Idx → Elt F .f32) = setBlk 0 0 w V' := by
  funext i
  have h0 : (i 0).val < 512 := (i 0).isLt
  have h1 : (i 1).val < 4096 := (i 1).isLt
  unfold setBlk
  rw [dif_pos (by omega), dif_pos (by omega)]

theorem wp_part2 (k : Fin k0_t1_loop.trips) (v97 v123 : BitVec 32) :
    iprop((∃ V, oPts (F := F) c k.val V) ∗ tPts c k.val (xt X c k.val) ∗ bPts c k.val (xb X c k.val) ∗ rcPts c (colIn X c))
      ⊢ wp frame (wpE defs₀ 𝒱₀ (c : Thread nD τ) none) Set.univ (part2 k v97 v123 (vC X c k.val) (k0_pay3 (blk3 (xv X c k.val))) 1#32)
        (fun r => iprop(⌜r.1 = vT X c k.val ∧ r.2.1 = vB X c k.val ∧ r.2.2 = vTop X c k.val⌝
          ∗ oPts c k.val (oIn X c k.val) ∗ tPts c k.val (xt X c k.val) ∗ bPts c k.val (xb X c k.val) ∗ rcPts c (colIn X c))) := by
  unfold part2
  simp only [k0_part2_eq_skeleton]
  unfold k0_part2_skel
  simp only [Prog.lift, Prog.bind_op, Prog.bind_ret, Prog.pure_eq_ret]
  iintro ⟨⟨%V, HP⟩, HT, HB, HC⟩
  iapply (load_o c k.val 512 4096 0 0 (k0_off24_eq k) V) $$ [HP]
  · iexact HP
  iintro %w HP
  iapply (store_o c k.val 512 4096 0 0 (k0_off24_eq k) _ V) $$ [HP]
  · iexact HP
  iintro HP
  iapply (load_t c k.val (k0_off25_eq k) (xt X c k.val)) $$ [HT]
  · iexact HT
  iintro HT
  iapply (load_b c k.val (k0_off25_eq k) (xb X c k.val)) $$ [HB]
  · iexact HB
  iintro HB
  iapply (load_rc c 1 (512 * k.val) (k0_off26_eq k) (colIn X c)) $$ [HC]
  · iexact HC
  iintro HC
  iapply (load_rc c 1 (512 * k.val) (k0_off26_eq k) (colIn X c)) $$ [HC]
  · iexact HC
  iintro HC
  rw [wp_ret]
  imodintro
  isplitr
  · ipureintro; exact ⟨rfl, rfl, rfl⟩
  isplitl [HP]
  · ihave HP := (Entails.of_eq (congrArg (oPts (F := F) c k.val) (setBlk_full _ V (xv X c k.val)))) $$ HP
    iexact HP
  isplitl [HT]; · iexact HT
  isplitl [HB]; · iexact HB
  iexact HC

theorem wp_part3 (k : Fin k0_t1_loop.trips) (v97 v123 : BitVec 32) :
    iprop(oPts c k.val (oIn X c k.val) ∗ rcPts c (colIn X c))
      ⊢ wp frame (wpE defs₀ 𝒱₀ (c : Thread nD τ) none) Set.univ (part3 k v97 v123 (vC X c k.val) (vT X c k.val) (vB X c k.val) (vTop X c k.val))
        (fun r => iprop(⌜r.1 = ldCol 512 (512 * k.val) (colIn X c) ∧ r.2.1 = k0_pay10 (vC X c k.val)
            ∧ r.2.2.1 = k0_pay11 (vC X c k.val) (vT X c k.val) (vB X c k.val) (ldCol 512 (512 * k.val) (colIn X c)) ∧ r.2.2.2 = k0_pay12⌝
          ∗ oPts c k.val (oRows X c k.val) ∗ rcPts c (colIn X c))) := by
  unfold part3
  simp only [k0_part3_eq_skeleton]
  unfold k0_part3_skel
  simp only [Prog.lift, Prog.bind_op, Prog.bind_ret, Prog.pure_eq_ret]
  iintro ⟨HP, HC⟩
  iapply (load_o c k.val 1 4096 0 0 (k0_off27_eq k) _) $$ [HP]
  · iexact HP
  iintro %w HP
  iapply (store_o c k.val 1 4096 0 0 (k0_off27_eq k) _ _) $$ [HP]
  · iexact HP
  iintro HP
  iapply (load_rc c 1 (512 * k.val + 511) (k0_off28_eq k) (colIn X c)) $$ [HC]
  · iexact HC
  iintro HC
  iapply (load_rc c 1 (512 * k.val + 511) (k0_off28_eq k) (colIn X c)) $$ [HC]
  · iexact HC
  iintro HC
  iapply (load_o c k.val 1 4096 511 0 (k0_off29_eq k) _) $$ [HP]
  · iexact HP
  iintro %w HP
  iapply (store_o c k.val 1 4096 511 0 (k0_off29_eq k) _ _) $$ [HP]
  · iexact HP
  iintro HP
  iapply (load_rc c 512 (512 * k.val) (k0_off30_eq k) (colIn X c)) $$ [HC]
  · iexact HC
  iintro HC
  rw [wp_ret]
  imodintro
  isplitr
  · ipureintro; exact ⟨rfl, rfl, rfl, rfl⟩
  isplitl [HP]; · iexact HP
  iexact HC

theorem c15 (c : Dev nD) : k0_cond15 c = 1#1 ↔ c.val % 2 = 0 := by revert c; decide
theorem c16 (c : Dev nD) : k0_cond16 c = 1#1 ↔ c.val % 2 = 1 := by revert c; decide
theorem c17 (c : Dev nD) (k : Fin k0_t1_loop.trips) : k0_cond17 c k = 1#1 ↔ (c.val / 2 = 0 ∧ k.val = 0) := by revert c k; decide
theorem c18 (c : Dev nD) (k : Fin k0_t1_loop.trips) : k0_cond18 c k = 1#1 ↔ (c.val / 2 = 1 ∧ k.val = 7) := by revert c k; decide

/-- A store of a border row or column, where the condition holds. -/
theorem edge {α : Type} {Q : α → sProp 𝕄} {p : Prop} [Decidable p] (q : Prop) [Decidable q] (hpq : p ↔ q) (k h l r cc : ℕ) {off : Fin 3 → ℕ}
    (hoff : off = ![k % 2, r, cc]) (w : (Sh3 1 h l).Idx → Elt F .f32) (V : S512x4096.Idx → Elt F .f32)
    {inb : p → ∀ x, off x + (![1, h, l] : Fin 3 → ℕ) x ≤ (Sh3 2 512 4096).size x}
    {hl : ∀ hp : p, (obM.view).LoadsAt (Rect.unit (s := Sh3 2 512 4096) off ![1, h, l] (inb hp)).toLoadRect}
    {hx : ∀ hp : p, (obM.access (Rect.unit (s := Sh3 2 512 4096) off ![1, h, l] (inb hp))).Stores Finset.univ}
    {hm : ∀ hp : p, (Finset.univ : Finset (Rect.unit (s := Sh3 2 512 4096) off ![1, h, l] (inb hp)).shape.Idx) = Finset.univ
      ∨ ∀ a, (Rect.unit (s := Sh3 2 512 4096) off ![1, h, l] (inb hp)).stride a = 1} {R : Prog (TpuEff nD τ sig (Elt F) Λ₀ .tc) α} :
    oPts (F := F) c k V ⊢ iprop((oPts (F := F) c k (if q then setBlk r cc w V else V) -∗ wp frame (wpE defs₀ 𝒱₀ (c : Thread nD τ) none) Set.univ R Q)
      -∗ wp frame (wpE defs₀ 𝒱₀ (c : Thread nD τ) none) Set.univ
        (if hp : p then .op (.load obM (Rect.unit (s := Sh3 2 512 4096) off ![1, h, l] (inb hp)).toLoadRect (hl hp))
            (fun _ => .op (.store obM (Rect.unit (s := Sh3 2 512 4096) off ![1, h, l] (inb hp)) w Finset.univ (hx hp) (hm hp)) (fun _ => R))
          else R) Q) := by
  by_cases hp : p
  · rw [dif_pos hp, if_pos (hpq.mp hp)]
    iintro HP Hk
    iapply (load_o c k h l r cc hoff V) $$ [HP]
    · iexact HP
    iintro %w' HP
    iapply (store_o c k h l r cc hoff w V) $$ [HP]
    · iexact HP
    iexact Hk
  · rw [dif_neg hp, if_neg (fun h => hp (hpq.mpr h))]
    iintro HP Hk
    iapply Hk
    iexact HP

theorem wp_part4 (k : Fin k0_t1_loop.trips) (v2 v5 a v97 : BitVec 32) :
    oPts c k.val (oRows X c k.val)
      ⊢ wp frame (wpE defs₀ 𝒱₀ (c : Thread nD τ) none) Set.univ (part4 c v2 v5 k a v97 (vC X c k.val) (vT X c k.val) (vB X c k.val)
          (ldCol 512 (512 * k.val) (colIn X c)) (k0_pay10 (vC X c k.val))
          (k0_pay11 (vC X c k.val) (vT X c k.val) (vB X c k.val) (ldCol 512 (512 * k.val) (colIn X c))) k0_pay12)
        (fun _ => oPts c k.val (oEdgeT X c k.val)) := by
  unfold part4
  simp only [k0_part4_eq_skeleton]
  unfold k0_part4_skel
  simp only [Prog.lift, Prog.bind_op, Prog.bind_ret, Prog.pure_eq_ret]
  iintro HP
  iapply (load_o c k.val 512 1 0 0 (k0_off31_eq k) _) $$ [HP]
  · iexact HP
  iintro %w HP
  iapply (store_o c k.val 512 1 0 0 (k0_off31_eq k) _ _) $$ [HP]
  · iexact HP
  iintro HP
  iapply (load_o c k.val 512 1 0 4095 (k0_off32_eq k) _) $$ [HP]
  · iexact HP
  iintro %w HP
  iapply (store_o c k.val 512 1 0 4095 (k0_off32_eq k) _ _) $$ [HP]
  · iexact HP
  iintro HP
  iapply (edge c (c.val % 2 = 0) (c15 c) k.val 512 1 0 0 (k0_off33_eq k) (k0_pay15 (vC X c k.val)) (oCols X c k.val)) $$ [HP]
  · iexact HP
  iintro HP
  iapply (edge c (c.val % 2 = 1) (c16 c) k.val 512 1 0 4095 (k0_off34_eq k) (k0_pay16 (vC X c k.val)) (oEdgeL X c k.val)) $$ [HP]
  · iexact HP
  iintro HP
  iapply (edge c (c.val / 2 = 0 ∧ k.val = 0) (c17 c k) k.val 1 4096 0 0 (k0_off35_eq k) (k0_pay17 (vC X c k.val)) (oEdgeR X c k.val)) $$ [HP]
  · iexact HP
  iintro HP
  rw [wp_ret]
  imodintro
  iexact HP

/-! ## The trip -/

/-- What holds before trip `k`; `f0` is what the output held at the start. -/
def Inv (f0 : Blk F) (k : ℕ) : sProp 𝕄 :=
  iprop(Pre1 X c k ∗ OSlot X c (k + 1) ∗ rcPts c (colIn X c) ∗ oReg c (512 * k) 4096 f0)

/-- An input slot whose chunk has been used is idle for the chunk two on. -/
theorem idle_of (k : ℕ) : iprop(vPts c k (xv X c k) ∗ tPts c k (xt X c k) ∗ bPts c k (xb X c k) ∗ semVal ((c : Thread nD τ), .dma (sIn k)) 0)
    ⊢ Idle (F := F) c (k + 1 + 1) := by
  unfold Idle
  rw [show k + 1 + 1 = k + 2 from rfl, sIn_add_two]
  unfold vPts tPts bPts
  rw [Nat.add_mod_right]
  iintro ⟨HV, HT, HB, HS⟩
  isplitl [HS]; · iexact HS
  isplitl [HV]; · iexists _; iexact HV
  isplitl [HT]; · iexists _; iexact HT
  iexists _; iexact HB

theorem wp_trip (f0 : Blk F) (k : Fin k0_t1_loop.trips) (v2 v5 c0 c1 : BitVec 32) :
    Inv X c f0 k.val ⊢ wp frame (wpE defs₀ 𝒱₀ (c : Thread nD τ) none) Set.univ (tripP c v2 v5 c0 c1 k ⟨⟩) (fun _ => Inv X c f0 (k.val + 1)) := by
  have hlt := trips_lt k
  unfold tripP k0_t1_body Inv
  iintro ⟨HP, HOS, HC, HR⟩
  iapply (wp_seg c (wp_part1 X c c0 c1 k)) $$ [HP]
  · iexact HP
  iintro %r ⟨%hr, HP⟩
  obtain ⟨a, v97, v123, v126, v127, cc⟩ := r
  obtain ⟨rfl, rfl, rfl⟩ := hr
  unfold Post1 Ready OFree
  icases HP with ⟨⟨HV, HT, HB, HS⟩, HA, HH, ⟨HO, HSO⟩, HD, HX, HW⟩
  iapply (wp_seg c (wp_part2 X c k v97 v123)) $$ [HO HT HB HC]
  · isplitl [HO]; · iexact HO
    isplitl [HT]; · iexact HT
    isplitl [HB]; · iexact HB
    iexact HC
  iintro %r ⟨%hr, HO, HT, HB, HC⟩
  obtain ⟨v147, v150, v168⟩ := r
  obtain ⟨rfl, rfl, rfl⟩ := hr
  iapply (wp_seg c (wp_part3 X c k v97 v123)) $$ [HO HC]
  · isplitl [HO]; · iexact HO
    iexact HC
  iintro %r ⟨%hr, HO, HC⟩
  obtain ⟨v200, v209, v213, v214⟩ := r
  obtain ⟨rfl, rfl, rfl, rfl⟩ := hr
  iapply (wp_seg c (wp_part4 X c k v2 v5 a v97)) $$ [HO]
  · iexact HO
  iintro %_ HO
  simp only [Prog.lift, Prog.bind_op, Prog.bind_ret, Prog.pure_eq_ret]
  iapply (edge c (c.val / 2 = 1 ∧ k.val = 7) (c18 c k) k.val 1 4096 511 0 (k0_off36_eq k) (k0_pay1 (vC X c k.val)) (oEdgeT X c k.val)) $$ [HO]
  · iexact HO
  iintro HO
  ihave HR := (oReg_split c (512 * k.val) (512 * k.val + 512) 4096 (by omega) (by omega) f0) $$ HR
  icases HR with ⟨HR, HR'⟩
  iapply (enq_out c k.val (sem_out _ _ (k0_off14_eq k) _) (k0_off15_eq k) rfl (k0_off37_eq k) rfl (G X c) f0 (outV X c k.val)
    (G_chunk X c k.val)) $$ [HO HR HSO]
  · isplitl [HO]; · iexact HO
    isplitl [HR]; · iexact HR
    iexact HSO
  iintro HF
  rw [wp_ret]
  imodintro
  unfold Pre1
  isplitl [HA HH HV HT HB HS HOS HD HX HW]
  · isplitl [HA]; · iexact HA
    isplitl [HH]; · iexact HH
    isplitl [HV HT HB HS]
    · iapply (idle_of X c k.val)
      isplitl [HV]; · iexact HV
      isplitl [HT]; · iexact HT
      isplitl [HB]; · iexact HB
      iexact HS
    isplitl [HOS]; · iexact HOS
    isplitl [HD]; · iexact HD
    isplitl [HX]; · iexact HX
    iexact HW
  isplitl [HF]
  · unfold OSlot OFly
    rw [if_neg (by omega), show k.val + 1 + 1 - 2 = k.val by omega]
    iexact HF
  isplitl [HC]; · iexact HC
  iexact HR'

end Cert.Stencil

end
-- ==== Proof.Ends.lean ====
/-
# The exchange with the peers, and the first copies in

What a device does before its loop: the handshake on the barrier semaphore, the copy of its boundary row to `px c`, the
boundary column picked out of a block of 128 columns and copied to `py c`, the waits for what the peers send, and the copies of
the first chunk.
-/
module

public import proofs.«01_k».proof.Proof.Parts

@[expose] public section

noncomputable section

namespace Cert.Stencil

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]
local notation "𝕄" => MT nD τ sig Unit (Elt F) ℕ UU ℕ

variable (X : Dev nD → Blk F) (c : Dev nD)

/-! ## The semaphores of the arrays' entries -/

theorem sem_s0 : ((cc0_scratch8.slice (Rect.unit (s := S2) ![0] S1.size inb_S2_S1_0)).squeeze S_ squeezes_S1_S_).sem = sRowS := by decide
theorem sem_s1 : ((cc0_scratch8.slice (Rect.unit (s := S2) ![1] S1.size inb_S2_S1_1)).squeeze S_ squeezes_S1_S_).sem = sColS := by decide
theorem sem_r0 : ((cc0_scratch9.slice (Rect.unit (s := S2) ![0] S1.size inb_S2_S1_0)).squeeze S_ squeezes_S1_S_).sem = rRowS := by decide
theorem sem_r1 : ((cc0_scratch9.slice (Rect.unit (s := S2) ![1] S1.size inb_S2_S1_1)).squeeze S_ squeezes_S1_S_).sem = rColS := by decide
theorem sem_h0 : ((cc0_scratch13.slice (Rect.unit (s := S2) ![0] S1.size inb_S2_S1_0)).squeeze S_ squeezes_S1_S_).sem = sH0 := by decide
theorem sem_cb : cc0_scratch12.sem = sCB := rfl
theorem credit_sc : scM.view.dmaCredit = Nc := rfl
theorem credit_x (off inb hs) : (xM.slice (Rect.unit (s := S4096x4096) off S1x4096.size inb) hs).view.dmaCredit = Nr := rfl

/-! ## The copies to the peers -/

theorem duty_xfer (d : Dev nD) (s : DmaSem sig) (hs : s = sRowS ∨ s = sColS ∨ s = rRowS ∨ s = rColS) :
    false ∈ (sched (F := F) X).duties (dCell s d) 0 := by
  rw [duties_xfer X d s hs]; exact Finset.mem_singleton_self _

/-- The row to `px c`: `px c`'s landing row in, the credit of the copy's own end out. -/
theorem send_row {n : Dev nD} (hn : n = px c) {κ₁ κ₂ : ℕ} {src : Memref sig .tc .hbm S1x4096 .f32} {off : Fin 2 → ℕ} {inb hs}
    (hoff : off = ![(rowIdx c).val, 0])
    (hsrc' : src = xM.slice (Rect.unit (s := S4096x4096) off S1x4096.size inb) hs) {s r : DmaSem sig} (hss : s = sRowS) (hrr : r = rRowS)
    {hsc hsrc hdst hsem} {α : Type} {Q : α → sProp 𝕄} {kk : PUnit → Prog (TpuEff nD τ sig (Elt F) Λ₀ .tc) α} :
    iprop(cellInv ER (sched X) κ₁ (dCell sRowS c) ∗ cellInv ER (sched X) κ₂ (dCell rRowS (px c))
        ∗ xAny X c ∗ (∃ f, rrPts (px c) f) ∗ (∃ W, owes (c : Thread nD τ) (O₂ c) W)
        ∗ dutyTok ER (dCell sRowS c) 0 false ∗ reached ER (dCell sRowS c) 0
        ∗ dutyTok ER (dCell rRowS (px c)) 0 false ∗ reached ER (dCell rRowS (px c)) 0)
      ⊢ iprop((xAny X c ∗ cred (tallyAt (dCell sRowS c) () Nr) ∗ (∃ W, owes (c : Thread nD τ) (tallyAt (dCell rColS (py c)) () Nc) W)
            -∗ wp frame (wpE defs₀ 𝒱₀ (c : Thread nD τ) none) Set.univ (kk ⟨⟩) Q)
          -∗ wp frame (wpE defs₀ 𝒱₀ (c : Thread nD τ) none) Set.univ
              (.op (.enqueueDma src (.remote (Dev.tc n : Thread nD τ) rrM (.dma s) hsc) (.dma r) hsrc hdst hsem) kk) Q) := by
  subst hn hss hrr
  have hw : (xM.slice (Rect.unit (s := S4096x4096) off ![1, 4096] inb) hs).view.read (Elt F) (X c) = rowOf X c := by
    rw [x_read_row X c (rowIdx c).val hoff]
    funext i
    unfold rowOf xRow
    congr 2
    exact Fin.ext (Nat.mod_eq_of_lt (rowIdx c).isLt)
  have hS := lend_x X c (w := rowOf X c) hsrc' hw
  iintro ⟨#HI1, #HI2, Hx, ⟨%f, Hr⟩, ⟨%W, HO⟩, Ht1, #Hr1, Ht2, #Hr2⟩ Hk
  ihave Hx' := hS $$ Hx
  icases Hx' with ⟨%q, %fs, %hw', Hs, Hx⟩
  iapply (Rounds.wp_send_pointsTo 𝒱₀ ER (sched X) (c : Thread nD τ) none (κ₁ := κ₁) (κ₂ := κ₂)
    (r₁ := 0) (r₂ := 0) (d₁ := false) (d₂ := false) (q := q) (fs := fs) (fd := f)
    (duty_xfer X c sRowS (.inl rfl)) (duty_xfer X (px c) rRowS (.inr (.inr (.inl rfl)))) () () Nr rfl
    (amount_row X c sRowS (.inl rfl) false) (amount_row X (px c) rRowS (.inr rfl) false)
    (tallyAt (dCell rColS (py c)) () Nc) rfl (W := W)
    ((BI.affine (P := _)).trans (Entails.of_eq (payload_sRow X c false).symm))
    (by
      rw [payload_rRow]; unfold rrPts rowIn
      rw [px_px]
      rw [pointsTo_congr (write_eq_of_read rrM.view f (rowOf X c) _ hw'.symm), View.set_whole])) $$ [Hs Hr HO Ht1 Ht2]
  · isplitr; · iexact HI1
    isplitr; · iexact HI2
    isplitl [Hs]; · iexact Hs
    isplitl [Hr]
    · unfold rrPts
      rw [View.set_whole]
      iexact Hr
    isplitl [HO]; · unfold O₂; iexact HO
    isplitl [Ht1]; · iexact Ht1
    isplitr; · iexact Hr1
    isplitl [Ht2]; · iexact Ht2
    iexact Hr2
  iintro ⟨Hc, HO⟩
  iapply Hk
  isplitl [Hx]; · iexact Hx
  isplitl [Hc]; · iexact Hc
  iexists W; iexact HO

/-- The column to `py c`. -/
theorem send_col {n : Dev nD} (hn : n = py c) {κ₁ κ₂ : ℕ} {s r : DmaSem sig} (hss : s = sColS) (hrr : r = rColS)
    {hsc hsrc hdst hsem} {α : Type} {Q : α → sProp 𝕄} {kk : PUnit → Prog (TpuEff nD τ sig (Elt F) Λ₀ .tc) α} :
    iprop(cellInv ER (sched X) κ₁ (dCell sColS c) ∗ cellInv ER (sched X) κ₂ (dCell rColS (py c))
        ∗ scPts c (colOf X c) ∗ (∃ f, rcPts (py c) f) ∗ (∃ W, owes (c : Thread nD τ) (tallyAt (dCell rColS (py c)) () Nc) W)
        ∗ dutyTok ER (dCell sColS c) 0 false ∗ reached ER (dCell sColS c) 0
        ∗ dutyTok ER (dCell rColS (py c)) 0 false ∗ reached ER (dCell rColS (py c)) 0)
      ⊢ iprop((cred (tallyAt (dCell sColS c) () Nc) ∗ (∃ W, owes (c : Thread nD τ) 0 W)
            -∗ wp frame (wpE defs₀ 𝒱₀ (c : Thread nD τ) none) Set.univ (kk ⟨⟩) Q)
          -∗ wp frame (wpE defs₀ 𝒱₀ (c : Thread nD τ) none) Set.univ
              (.op (.enqueueDma scM (.remote (Dev.tc n : Thread nD τ) rcM (.dma s) hsc) (.dma r) hsrc hdst hsem) kk) Q) := by
  subst hn hss hrr
  iintro ⟨#HI1, #HI2, Hs, ⟨%f, Hr⟩, ⟨%W, HO⟩, Ht1, #Hr1, Ht2, #Hr2⟩ Hk
  iapply (Rounds.wp_send_pointsTo 𝒱₀ ER (sched X) (c : Thread nD τ) none (κ₁ := κ₁) (κ₂ := κ₂)
    (r₁ := 0) (r₂ := 0) (d₁ := false) (d₂ := false) (q := fullShare) (fs := colOf X c) (fd := f)
    (duty_xfer X c sColS (.inr (.inl rfl))) (duty_xfer X (py c) rColS (.inr (.inr (.inr rfl)))) () () Nc rfl
    (amount_col X c sColS (.inl rfl) false) (amount_col X (py c) rColS (.inr rfl) false)
    0 (by rw [zero_add]) (W := W)
    (by rw [payload_sCol, View.set_whole]; exact BI.Entails.refl _)
    (by
      rw [payload_rCol]; unfold rcPts colIn
      rw [py_py]
      rw [pointsTo_congr (write_eq_of_read rcM.view f (colOf X c) _ rfl), View.set_whole])) $$ [Hs Hr HO Ht1 Ht2]
  · isplitr; · iexact HI1
    isplitr; · iexact HI2
    isplitl [Hs]
    · unfold scPts
      rw [View.set_whole]
      iexact Hs
    isplitl [Hr]
    · unfold rcPts
      rw [View.set_whole]
      iexact Hr
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

/-- The wait on a send or receive cell: what its copy hands over. -/
theorem wait_cell {s s' : DmaSem sig} (hss : s = s') (hx : s' = sRowS ∨ s' = sColS ∨ s' = rRowS ∨ s' = rColS) {κ N : ℕ}
    {sp sp' : Space} {sh sh' : Shape} {e e' : EltTy} {src : Memref sig .tc sp' sh' e'} {dst : Memref sig .tc sp sh e} {hw hw'}
    (hN : dst.view.dmaCredit = N) (he : (sched X).expect (dCell s' c) 0 = N) {P : sProp 𝕄} (hP : (sched X).payload (dCell s' c) 0 false = P)
    {α : Type} {Q : α → sProp 𝕄} {kk : PUnit → Prog (TpuEff nD τ sig (Elt F) Λ₀ .tc) α} :
    iprop(cellInv ER (sched X) κ (dCell s' c) ∗ cred (tallyAt (dCell s' c) () N) ∗ (∃ W, owes (c : Thread nD τ) 0 W) ∗ atPos ER (dCell s' c) 0 ∅ 0)
      ⊢ iprop((P ∗ atPos ER (dCell s' c) 1 ∅ 0 ∗ (∃ W, owes (c : Thread nD τ) 0 W)
            -∗ wp frame (wpE defs₀ 𝒱₀ (c : Thread nD τ) none) Set.univ (kk ⟨⟩) Q)
          -∗ wp frame (wpE defs₀ 𝒱₀ (c : Thread nD τ) none) Set.univ (.op (.waitDma2 s src dst hw hw') kk) Q) := by
  subst hss hN hP
  iintro ⟨#HI, Hc, ⟨%W, HO⟩, Hat⟩ Hk
  iapply (Rounds.wp_wait_rest_token 𝒱₀ ER (sched X) (c : Thread nD τ) none (κ := κ)
      (wpE_waitDma2_eq 𝒱₀ (c : Thread nD τ) none Set.univ) (Set.mem_univ _) () (O := 0) (W := W) (R := 0) (m := 0) (T := ∅)
      (by rw [Nat.zero_add, he])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_xfer X c s hx)) $$ Hpay
  iapply Hk
  isplitl [Hp]; · iexact Hp
  isplitl [Hat]; · iexact Hat
  iexists _; iexact HO

theorem off1_eq : k0_off1 c = ![(rowIdx c).val, 0] := by revert c; decide

/-- The first stretch's program on the kernel's memrefs. -/
abbrev part5 := k0_part5 (F := F) xM (Memref.isWhole_whole _) oM (Memref.isWhole_whole _) vbM (Memref.isWhole_whole _) obM (Memref.isWhole_whole _) trM (Memref.isWhole_whole _) brM (Memref.isWhole_whole _) rrM (Memref.isWhole_whole _) cbM (Memref.isWhole_whole _) scM (Memref.isWhole_whole _) rcM (Memref.isWhole_whole _) cc0_scratch8 cc0_scratch9 cc0_scratch10 cc0_scratch11 cc0_scratch12 cc0_scratch13

/-- A device's mesh coordinates as the words the program computes. -/
def wx : BitVec 32 := Scalar.remsi (Scalar.divsi (Dev.word c) 2#32) 2#32
def wy : BitVec 32 := Scalar.remsi (Scalar.divsi (Dev.word c) 1#32) 2#32

variable (K : Dev nD × Fin 5 → ℕ)

set_option maxHeartbeats 800000 in
/-- The handshake and the row's copy. -/
theorem wp_part5 :
    iprop(invs X K c ∗ marks c ∗ levAts L lv ∗ atPos ER (barCell c) 0 ∅ 0
        ∗ (dutyTok ER (barCell (px c)) 0 false ∗ dutyTok ER (barCell (py c)) 0 true
          ∗ dutyTok ER (dCell sRowS c) 0 false ∗ dutyTok ER (dCell rRowS (px c)) 0 false)
        ∗ cred (tallyAt (barCell c) () 2) ∗ (∃ W, owes (c : Thread nD τ) (O₀ c) W)
        ∗ (∃ f, rrPts c f) ∗ (∃ f, rcPts c f) ∗ xAny X c)
      ⊢ wp frame (wpE defs₀ 𝒱₀ (c : Thread nD τ) none) Set.univ (part5 (F := F))
        (fun r => iprop(⌜r.1 = c ∧ r.2.1 = wx c ∧ r.2.2.1 = wy c⌝ ∗ atPos ER (barCell c) 1 ∅ 0 ∗ (∃ f, rcPts (py c) f)
          ∗ xAny X c ∗ cred (tallyAt (dCell sRowS c) () Nr) ∗ (∃ W, owes (c : Thread nD τ) (tallyAt (dCell rColS (py c)) () Nc) W))) := by
  unfold part5
  simp only [k0_part5_eq_skeleton]
  unfold k0_part5_skel
  simp only [semSignalWord, semWaitWord, Prog.lift, Prog.bind_op, Prog.bind_ret, Prog.pure_eq_ret, wp_deviceId]
  simp only [dev1_eq c, dev2_eq c]
  unfold invs marks
  iintro ⟨⟨#HIb, #HIs, #HIr, #HIt, #HIu, #HIbx, #HIby, #HIrx, #HIry⟩, ⟨#Mbx, #Mby, #Ms, #Mr, #Mt, #Mu, #Mrx, #Mry⟩, #Hlev, Hat,
    ⟨T1, T2, T3, T4⟩, Hcb, ⟨%W, HO⟩, ⟨%fr, Hrr⟩, ⟨%fc, Hrc⟩, Hx⟩
  iapply (Rounds.wp_signal 𝒱₀ ER (sched X) (c : Thread nD τ) none (dst := (px c : Thread nD τ)) (κ := K (px c, 0))
      (d := false) (by rw [duties_bar]; exact Finset.mem_univ _) ((amount_bar X (px c) false).trans (by decide)) () (O₁ c) rfl) $$ [HO T1 Hrr]
  · isplitr; · iexact HIbx
    isplitl [HO]; · iexact HO
    isplitl [T1]; · iexact T1
    isplitl [Hrr]
    · rw [payload_bar_false]; unfold barPayX; rw [px_px]
      isplitl [Hrr]; · iexists fr; iexact Hrr
      iexact Mr
    iexact Mbx
  iintro HO
  unfold O₁
  iapply (Rounds.wp_signal 𝒱₀ ER (sched X) (c : Thread nD τ) none (dst := (py c : Thread nD τ)) (κ := K (py c, 0))
      (d := true) (by rw [duties_bar]; exact Finset.mem_univ _) ((amount_bar X (py c) true).trans (by decide)) () (O₂ c) rfl) $$ [HO T2 Hrc]
  · isplitr; · iexact HIby
    isplitl [HO]; · iexact HO
    isplitl [T2]; · iexact T2
    isplitl [Hrc]
    · rw [payload_bar_true]; unfold barPayY; rw [py_py]
      isplitl [Hrc]; · iexists fc; iexact Hrc
      iexact Mu
    iexact Mby
  iintro HO
  iapply (Rounds.wp_wait_rest_token 𝒱₀ ER (sched X) (c : Thread nD τ) none (κ := K (c, 0))
      (wpE_semWait_eq 𝒱₀ (c : Thread nD τ) none Set.univ) (Set.mem_univ _) () (O := O₂ c) (W := W) (R := 0) (m := 0) (T := ∅)
      (by rw [expect_bar]; decide)) $$ [Hcb HO Hat]
  · isplitr; · iexact HIb
    isplitl [Hcb]; · iexact Hcb
    isplitl [HO]; · iexact HO
    isplitr; · iapply (mayWait_bar c); iexact Hlev
    iexact Hat
  iintro ⟨HO, Hat, -, Hpay⟩
  ihave Hp := (Entails.of_eq (rest_bar X c)) $$ Hpay
  unfold barPayX barPayY
  icases Hp with ⟨⟨Hrr, -⟩, Hrc, -⟩
  iapply (send_row X c (dev3_eq c _) (κ₁ := K (c, 1)) (κ₂ := K (px c, 2)) (off1_eq c) rfl sem_s0 sem_r0) $$ [HO T3 T4 Hrr Hx]
  · isplitr; · iexact HIs
    isplitr; · iexact HIrx
    isplitl [Hx]; · iexact Hx
    isplitl [Hrr]; · iexact Hrr
    isplitl [HO]; · iexists _; iexact HO
    isplitl [T3]; · iexact T3
    isplitr; · iexact Ms
    isplitl [T4]; · iexact T4
    iexact Mrx
  iintro ⟨Hx, Hc, HO⟩
  rw [wp_ret]
  imodintro
  isplitr; · ipureintro; exact ⟨rfl, rfl, rfl⟩
  isplitl [Hat]; · iexact Hat
  isplitl [Hrc]; · iexact Hrc
  isplitl [Hx]; · iexact Hx
  isplitl [Hc]; · iexact Hc
  iexact HO

/-! ## The boundary column -/

def cbPts (f : S4096x128.Idx → Elt F .f32) : sProp 𝕄 := ((c : Thread nD τ).loc cc0_scratch5) ↦{fullShare} f

/-- The block of 128 columns from column `b` on. -/
def xCols (b : ℕ) : S4096x128.Idx → Elt F .f32 := fun i => xRow X c (i 0).val ⟨(b + (i 1).val) % 4096, Nat.mod_lt _ (by decide)⟩

abbrev Ncb : ℕ := cbM.view.dmaCredit
theorem Ncb_pos : 0 < Ncb := View.dmaCredit_pos _ (by decide)

/-- The block of columns copied in and waited for, and its column `q` stored in the scratch column. -/
theorem pick_col {b q : ℕ} (hb : b + 128 ≤ 4096) (hq : q < 128) (hbq : b + q = (colIdx c).val)
    {src : Memref sig .tc .hbm S4096x128 .f32} {off : Fin 2 → ℕ} {inb hs} (hoff : off = ![0, b])
    (hsrc' : src = xM.slice (Rect.unit (s := S4096x4096) off S4096x128.size inb) hs) {s s' : DmaSem sig} (hss : s = sCB) (hss' : s' = sCB)
    {offl : Fin 2 → ℕ} (hoffl : offl = ![0, q]) {inbl hl offz} (hz : offz = fun _ => 0) {inbd hd inbs hst hm hsrc hdst hsem hw hw'}
    {pay : (S4096x1.Idx → Elt F .f32) → (S4096x1.Idx → Elt F .f32)} (hpay : ∀ v, pay v = v)
    {α : Type} {Q : α → sProp 𝕄} {kk : PUnit → Prog (TpuEff nD τ sig (Elt F) Λ₀ .tc) α} :
    iprop(levAts L lv ∗ xAny X c ∗ (∃ f, cbPts c f) ∗ (∃ f, scPts c f) ∗ semVal ((c : Thread nD τ), .dma sCB) 0
        ∗ (∃ W, owes (c : Thread nD τ) (tallyAt (dCell rColS (py c)) () Nc) W))
      ⊢ iprop((xAny X c ∗ (∃ f, cbPts (F := F) c f) ∗ scPts c (colOf X c) ∗ semVal ((c : Thread nD τ), .dma sCB) 0
            ∗ (∃ W, owes (c : Thread nD τ) (tallyAt (dCell rColS (py c)) () Nc) W)
            -∗ wp frame (wpE defs₀ 𝒱₀ (c : Thread nD τ) none) Set.univ (kk ⟨⟩) Q)
          -∗ wp frame (wpE defs₀ 𝒱₀ (c : Thread nD τ) none) Set.univ
              (.op (.enqueueDma src (.here cbM) (.dma s) hsrc hdst hsem) fun _ =>
                .op (.waitDma2 s' cbM cbM hw hw') fun _ =>
                .op (.load cbM (Rect.unit (s := S4096x128) offl S4096x1.size inbl).toLoadRect hl) fun v =>
                .op (.load scM (Rect.unit (s := S4096x1) offz S4096x1.size inbd).toLoadRect hd) fun _ =>
                .op (.store scM (Rect.unit (s := S4096x1) offz S4096x1.size inbs) (pay v) Finset.univ hst hm) kk) Q) := by
  subst hss hss'
  have hw : (xM.slice (Rect.unit (s := S4096x4096) off ![4096, 128] inb) hs).view.read (Elt F) (X c) = xCols X c b := by
    funext i
    have h1 : (i 1).val < 128 := (i 1).isLt
    rw [x_read X c 4096 128 0 b off hoff inb hs i (by omega)]
    unfold xCols
    rw [Nat.zero_add]
    congr 1
    exact Fin.ext (Nat.mod_eq_of_lt (by omega)).symm
  have hS := lend_x X c (w := xCols X c b) hsrc' hw
  have hv : (cbM.access (Rect.unit (s := S4096x128) offl ![4096, 1] inbl)).read (Elt F) (xCols X c b) = colOf X c := by
    subst hoffl
    funext i
    have h0 : (i 0).val < 4096 := (i 0).isLt
    have h1 : (i 1).val < 1 := (i 1).isLt
    unfold colOf
    show xCols X c b _ = _
    unfold xCols xRow
    congr 1
    funext x
    match x with
    | ⟨0, _⟩ => apply Fin.ext; show (0 + 1 * (i 0).val) % 4096 = (i 0).val; rw [Nat.mod_eq_of_lt (by omega)]; omega
    | ⟨1, _⟩ => apply Fin.ext; show (b + (q + 1 * (i 1).val)) % 4096 = (colIdx c).val; rw [Nat.mod_eq_of_lt (by omega)]; omega
  have hwr : ∀ g, (scM.access (Rect.unit (s := S4096x1) offz S4096x1.size inbs) : View sig .tc _ _ _).write (Elt F) g (colOf X c) Finset.univ = colOf X c :=
    fun g => Memref.write_access_unit_zero_univ (Elt F) cc0_scratch6 hz inbs g (colOf X c)
  iintro ⟨#Hlev, Hx, ⟨%f, Hcb⟩, ⟨%g, Hsc⟩, HS, ⟨%W, HO⟩⟩ Hk
  ihave Hx' := hS $$ Hx
  icases Hx' with ⟨%q, %fs, %hw', Hs, Hx⟩
  unfold cbPts scPts
  iapply (wp_dmaLocal EC 𝒱₀ (c : Thread nD τ) none () Ncb rfl Ncb_pos (Finset.subset_univ _)) $$ [Hs Hcb HS]
  · isplitl [Hs]; · iexact Hs
    isplitl [Hcb]; · iexact Hcb
    iexact HS
  iintro HF
  iapply (wp_waitLocalO EC 𝒱₀ (c : Thread nD τ) none () (N := Ncb) rfl) $$ [HF HO]
  · isplitl [HF]; · iexact HF
    isplitl [HO]; · iexact HO
    iapply (mayWait_colblk c); iexact Hlev
  iintro ⟨⟨Hcb, -⟩, HS, HO⟩
  have hcb : (cbM.view.write (Elt F) f (src.view.read (Elt F) fs) Finset.univ) = xCols X c b :=
    funext fun i => write_eq_of_read cbM.view f (xCols X c b) _ hw'.symm i (by rw [View.set_whole]; exact Finset.mem_univ i)
  ihave Hcb := (Entails.of_eq (congrArg (fun z => ((cbM.view.loc (c : Thread nD τ)) ↦{fullShare} z : sProp 𝕄)) hcb)) $$ Hcb
  iapply (wp_load_rect 𝒱₀ (c : Thread nD τ) none Set.univ (S := Finset.univ) (f := xCols X c b) (Finset.subset_univ _)) $$ [Hcb]
  · iexact Hcb
  rw [hv]
  iintro Hcb
  iapply (wp_load 𝒱₀ (c : Thread nD τ) none Set.univ (m := scM) (S := Finset.univ) (Finset.subset_univ _)) $$ [Hsc]
  · iexact Hsc
  iintro Hsc
  iapply (wp_store 𝒱₀ (c : Thread nD τ) none Set.univ (m := scM) (S := Finset.univ) (Finset.subset_univ _)) $$ [Hsc]
  · iexact Hsc
  rw [hpay, hwr]
  iintro Hsc
  iapply Hk
  isplitl [Hx]; · iexact Hx
  isplitl [Hcb]; · iexists _; iexact Hcb
  isplitl [Hsc]; · iexact Hsc
  isplitl [HS]; · iexact HS
  iexists _; iexact HO

abbrev part6 (d0 : Dev nD) (v2 v5 v19 : BitVec 32) := k0_part6 (F := F) xM (Memref.isWhole_whole _) oM (Memref.isWhole_whole _) vbM (Memref.isWhole_whole _) obM (Memref.isWhole_whole _) trM (Memref.isWhole_whole _) brM (Memref.isWhole_whole _) rrM (Memref.isWhole_whole _) cbM (Memref.isWhole_whole _) scM (Memref.isWhole_whole _) rcM (Memref.isWhole_whole _) cc0_scratch8 cc0_scratch9 cc0_scratch10 cc0_scratch11 cc0_scratch12 cc0_scratch13 d0 v2 v5 v19
abbrev part7 (d0 : Dev nD) (v2 v41 : BitVec 32) := k0_part7 (F := F) xM (Memref.isWhole_whole _) oM (Memref.isWhole_whole _) vbM (Memref.isWhole_whole _) obM (Memref.isWhole_whole _) trM (Memref.isWhole_whole _) brM (Memref.isWhole_whole _) rrM (Memref.isWhole_whole _) cbM (Memref.isWhole_whole _) scM (Memref.isWhole_whole _) rcM (Memref.isWhole_whole _) cc0_scratch8 cc0_scratch9 cc0_scratch10 cc0_scratch11 cc0_scratch12 cc0_scratch13 d0 v2 v41

theorem c1 : Scalar.cmpi .ne (Scalar.extui (Scalar.cmpi .eq (wy c) 0#32)) (0#32 : BitVec 32) = 1#1 ↔ c.val % 2 = 0 := by unfold wy; revert c; decide
theorem c2 : Scalar.cmpi .ne (Scalar.extui (Scalar.cmpi .eq (wy c) 1#32)) (0#32 : BitVec 32) = 1#1 ↔ ¬ c.val % 2 = 0 := by unfold wy; revert c; decide
theorem zero2 : (![0, 0] : Fin 2 → ℕ) = fun _ => 0 := funext fun a => by fin_cases a <;> rfl
theorem pay18_eq (v : S4096x1.Idx → Elt F .f32) : k0_pay18 (F := F) v = v := by
  unfold k0_pay18
  exact shapeCast_self v _
theorem pay19_eq (v : S4096x1.Idx → Elt F .f32) : k0_pay19 (F := F) v = v := by
  unfold k0_pay19
  exact shapeCast_self v _

set_option maxHeartbeats 800000 in
/-- The column picked and copied, and the row copy's own end waited for. -/
theorem wp_part6 (v2 v19 : BitVec 32) :
    iprop(invs X K c ∗ marks c ∗ levAts L lv ∗ (dutyTok ER (dCell sColS c) 0 false ∗ dutyTok ER (dCell rColS (py c)) 0 false)
        ∗ atPos ER (dCell sRowS c) 0 ∅ 0 ∗ cred (tallyAt (dCell sRowS c) () Nr) ∗ (∃ f, rcPts (py c) f)
        ∗ xAny X c ∗ (∃ f, cbPts c f) ∗ (∃ f, scPts c f) ∗ semVal ((c : Thread nD τ), .dma sCB) 0
        ∗ (∃ W, owes (c : Thread nD τ) (tallyAt (dCell rColS (py c)) () Nc) W))
      ⊢ wp frame (wpE defs₀ 𝒱₀ (c : Thread nD τ) none) Set.univ (part6 (F := F) c v2 (wy c) v19)
        (fun _ => iprop(atPos ER (dCell sRowS c) 1 ∅ 0 ∗ cred (tallyAt (dCell sColS c) () Nc)
          ∗ xAny X c ∗ (∃ f, cbPts (F := F) c f) ∗ semVal ((c : Thread nD τ), .dma sCB) 0 ∗ (∃ W, owes (c : Thread nD τ) 0 W))) := by
  unfold part6
  simp only [k0_part6_eq_skeleton]
  unfold k0_part6_skel invs marks
  have fin : ∀ {sd rd sw : DmaSem sig} (h1 : sd = sColS) (h2 : rd = rColS) (h3 : sw = sRowS) {n : Dev nD} (hn : n = py c)
      {src : Memref sig .tc .hbm S1x4096 .f32} (hcr : src.view.dmaCredit = Nr) {hsc hsrc hdst hsem hw hw'} {v : BitVec 32},
      iprop(invs X K c ∗ marks c ∗ (dutyTok ER (dCell sColS c) 0 false ∗ dutyTok ER (dCell rColS (py c)) 0 false)
        ∗ atPos ER (dCell sRowS c) 0 ∅ 0 ∗ cred (tallyAt (dCell sRowS c) () Nr) ∗ (∃ f, rcPts (py c) f)
        ∗ xAny X c ∗ (∃ f, cbPts (F := F) c f) ∗ scPts c (colOf X c) ∗ semVal ((c : Thread nD τ), .dma sCB) 0
        ∗ (∃ W, owes (c : Thread nD τ) (tallyAt (dCell rColS (py c)) () Nc) W))
      ⊢ wp frame (wpE defs₀ 𝒱₀ (c : Thread nD τ) none) Set.univ
        (.op (.enqueueDma scM (.remote (Dev.tc n : Thread nD τ) rcM (.dma sd) hsc) (.dma rd) hsrc hdst hsem) fun _ =>
          .op (.waitDma2 sw rrM src hw hw') fun _ => (.ret v : Prog (TpuEff nD τ sig (Elt F) Λ₀ .tc) (BitVec 32)))
        (fun _ => iprop(atPos ER (dCell sRowS c) 1 ∅ 0 ∗ cred (tallyAt (dCell sColS c) () Nc)
          ∗ xAny X c ∗ (∃ f, cbPts (F := F) c f) ∗ semVal ((c : Thread nD τ), .dma sCB) 0 ∗ (∃ W, owes (c : Thread nD τ) 0 W))) := by
    intro sd rd sw h1 h2 h3 n hn src hcr hsc hsrc hdst hsem hw hw' v
    unfold invs marks
    iintro ⟨⟨#HIb, #HIs, #HIr, #HIt, #HIu, #HIbx, #HIby, #HIrx, #HIry⟩, ⟨#Mbx, #Mby, #Ms, #Mr, #Mt, #Mu, #Mrx, #Mry⟩,
      ⟨T1, T2⟩, Hat, Hc, Hrc, Hx, Hcb, Hsc, HS, HO⟩
    iapply (send_col X c hn h1 h2 (κ₁ := K (c, 3)) (κ₂ := K (py c, 4))) $$ [T1 T2 Hrc Hsc HO]
    · isplitr; · iexact HIt
      isplitr; · iexact HIry
      isplitl [Hsc]; · iexact Hsc
      isplitl [Hrc]; · iexact Hrc
      isplitl [HO]; · iexact HO
      isplitl [T1]; · iexact T1
      isplitr; · iexact Mt
      isplitl [T2]; · iexact T2
      iexact Mry
    iintro ⟨Hc', HO⟩
    iapply (wait_cell X c h3 (.inl rfl) (κ := K (c, 1)) hcr (expect_row X c sRowS (.inl rfl)) (payload_sRow X c false)) $$ [Hc HO Hat]
    · isplitr; · iexact HIs
      isplitl [Hc]; · iexact Hc
      isplitl [HO]; · iexact HO
      iexact Hat
    iintro ⟨-, Hat, HO⟩
    rw [wp_ret]
    imodintro
    isplitl [Hat]; · iexact Hat
    isplitl [Hc']; · iexact Hc'
    isplitl [Hx]; · iexact Hx
    isplitl [Hcb]; · iexact Hcb
    isplitl [HS]; · iexact HS
    iexact HO
  unfold invs marks at fin
  iintro ⟨#HI, #HM, #Hlev, HT, Hat, Hc, Hrc, Hx, Hcb, Hsc, HS, HO⟩
  by_cases h : c.val % 2 = 0
  · have e1 := (c1 c).mpr h
    have e2 := (not_congr (c2 c)).mpr (not_not.mpr h)
    simp only [e1, e2, ↓reduceDIte, Prog.lift, Prog.bind_op, Prog.bind_ret, Prog.pure_eq_ret]
    iapply (pick_col X c (b := 3968) (q := 127) (by decide) (by decide) (by unfold colIdx; rw [if_pos h]; rfl) rfl rfl sem_cb sem_cb rfl zero2 pay18_eq) $$ [Hx Hcb Hsc HS HO]
    · isplitr; · iexact Hlev
      isplitl [Hx]; · iexact Hx
      isplitl [Hcb]; · iexact Hcb
      isplitl [Hsc]; · iexact Hsc
      isplitl [HS]; · iexact HS
      iexact HO
    iintro ⟨Hx, Hcb, Hsc, HS, HO⟩
    iapply (fin sem_s1 sem_r1 sem_s0 (dev4_eq c _) (credit_x _ _ _))
    isplitr; · iexact HI
    isplitr; · iexact HM
    isplitl [HT]; · iexact HT
    isplitl [Hat]; · iexact Hat
    isplitl [Hc]; · iexact Hc
    isplitl [Hrc]; · iexact Hrc
    isplitl [Hx]; · iexact Hx
    isplitl [Hcb]; · iexact Hcb
    isplitl [Hsc]; · iexact Hsc
    isplitl [HS]; · iexact HS
    iexact HO
  · have e1 := (not_congr (c1 c)).mpr h
    have e2 := (c2 c).mpr h
    simp only [e1, e2, ↓reduceDIte, Prog.lift, Prog.bind_op, Prog.bind_ret, Prog.pure_eq_ret]
    iapply (pick_col X c (b := 0) (q := 0) (by decide) (by decide) (by unfold colIdx; rw [if_neg h]; rfl) rfl rfl sem_cb sem_cb rfl zero2 pay19_eq) $$ [Hx Hcb Hsc HS HO]
    · isplitr; · iexact Hlev
      isplitl [Hx]; · iexact Hx
      isplitl [Hcb]; · iexact Hcb
      isplitl [Hsc]; · iexact Hsc
      isplitl [HS]; · iexact HS
      iexact HO
    iintro ⟨Hx, Hcb, Hsc, HS, HO⟩
    iapply (fin sem_s1 sem_r1 sem_s0 (dev4_eq c _) (credit_x _ _ _))
    isplitr; · iexact HI
    isplitr; · iexact HM
    isplitl [HT]; · iexact HT
    isplitl [Hat]; · iexact Hat
    isplitl [Hc]; · iexact Hc
    isplitl [Hrc]; · iexact Hrc
    isplitl [Hx]; · iexact Hx
    isplitl [Hcb]; · iexact Hcb
    isplitl [Hsc]; · iexact Hsc
    isplitl [HS]; · iexact HS
    iexact HO

set_option maxHeartbeats 800000 in
/-- What the peers sent, and the first chunk's copies. -/
theorem wp_part7 (v2 v41 : BitVec 32) :
    iprop(invs X K c ∗ (atPos ER (dCell rRowS c) 0 ∅ 0 ∗ atPos ER (dCell sColS c) 0 ∅ 0 ∗ atPos ER (dCell rColS c) 0 ∅ 0)
        ∗ (cred (tallyAt (dCell rRowS c) () Nr) ∗ cred (tallyAt (dCell sColS c) () Nc) ∗ cred (tallyAt (dCell rColS c) () Nc))
        ∗ Idle c 0 ∗ semVal ((c : Thread nD τ), .dma sH0) 0 ∗ semVal ((c : Thread nD τ), .dma sH1) 0 ∗ xAny X c ∗ (∃ W, owes (c : Thread nD τ) 0 W))
      ⊢ wp frame (wpE defs₀ 𝒱₀ (c : Thread nD τ) none) Set.univ (part7 (F := F) c v2 v41)
        (fun _ => iprop((atPos ER (dCell rRowS c) 1 ∅ 0 ∗ atPos ER (dCell sColS c) 1 ∅ 0 ∗ atPos ER (dCell rColS c) 1 ∅ 0)
          ∗ First X c ∗ scPts c (colOf X c) ∗ rcPts c (colIn X c) ∗ xAny X c ∗ (∃ W, owes (c : Thread nD τ) 0 W))) := by
  unfold part7
  simp only [k0_part7_eq_skeleton]
  unfold k0_part7_skel invs Idle First
  simp only [Prog.lift, Prog.bind_op, Prog.bind_ret, Prog.pure_eq_ret]
  iintro ⟨⟨#HIb, #HIs, #HIr, #HIt, #HIu, #HIbx, #HIby, #HIrx, #HIry⟩, ⟨A1, A2, A3⟩, ⟨C1, C2, C3⟩, ⟨HS, HV, HT, HB⟩, HS0, HS1, Hx, HO⟩
  iapply (wait_cell X c sem_r0 (.inr (.inr (.inl rfl))) (κ := K (c, 2)) (dst := rrM) rfl (expect_row X c rRowS (.inr rfl)) (payload_rRow X c false)) $$ [A1 C1 HO]
  · isplitr; · iexact HIr
    isplitl [C1]; · iexact C1
    isplitl [HO]; · iexact HO
    iexact A1
  iintro ⟨Hrr, A1, HO⟩
  iapply (wait_cell X c sem_s1 (.inr (.inl rfl)) (κ := K (c, 3)) credit_sc (expect_col X c sColS (.inl rfl)) (payload_sCol X c false)) $$ [A2 C2 HO]
  · isplitr; · iexact HIt
    isplitl [C2]; · iexact C2
    isplitl [HO]; · iexact HO
    iexact A2
  iintro ⟨Hsc, A2, HO⟩
  iapply (wait_cell X c sem_r1 (.inr (.inr (.inr rfl))) (κ := K (c, 4)) (dst := rcM) rfl (expect_col X c rColS (.inr rfl)) (payload_rCol X c false)) $$ [A3 C3 HO]
  · isplitr; · iexact HIu
    isplitl [C3]; · iexact C3
    isplitl [HO]; · iexact HO
    iexact A3
  iintro ⟨Hrc, A3, HO⟩
  imod (mixedBatch_alloc' EC (c : Thread nD τ) () AFst (DFst X c)) $$ HS with HM
  iapply (enq_v X c (A := AFst) (D := DFst X c) (j := 0) (u := 0) 0 (by decide) (Nat.zero_le _) (sem_in _ 0 rfl _) rfl rfl rfl rfl rfl rfl) $$ [Hx HV HM]
  · isplitl [Hx]; · iexact Hx
    isplitl [HV]; · iexact HV
    iexact HM
  iintro ⟨Hx, HM⟩
  iapply (enq_rr_t c 0 sem_h0 rfl rfl (rowIn X c)) $$ [Hrr HT HS0]
  · isplitl [Hrr]; · iexact Hrr
    isplitl [HT]; · iexact HT
    iexact HS0
  iintro HF
  iapply (enq_b X c (A := AFst) (D := DFst X c) (j := 1) (u := 0) 0 (by decide) (by decide) (Nat.zero_le _) (sem_in _ 0 rfl _) k0_off2_eq rfl rfl rfl rfl rfl) $$ [Hx HB HM]
  · isplitl [Hx]; · iexact Hx
    isplitl [HB]; · iexact HB
    iexact HM
  iintro ⟨Hx, HM⟩
  rw [wp_ret]
  imodintro
  isplitl [A1 A2 A3]
  · isplitl [A1]; · iexact A1
    isplitl [A2]; · iexact A2
    iexact A3
  isplitl [HM HF HS1]
  · isplitl [HM]; · iexact HM
    isplitl [HF]; · iexact HF
    iexact HS1
  isplitl [Hsc]; · iexact Hsc
  isplitl [Hrc]; · iexact Hrc
  isplitl [Hx]; · iexact Hx
  iexact HO

end Cert.Stencil

end
-- ==== Proof.Body.lean ====
/-
# A device's whole body

The exchange with the peers, the loop by its invariant, the last two copies out, and the closing of the five protocol cells.
-/
module

public import proofs.«01_k».proof.Proof.Ends
public import Idealize.ShloMosaic.Lib.Scf

@[expose] public section

noncomputable section

namespace Cert.Stencil

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]
local notation "𝕄" => MT nD τ sig Unit (Elt F) ℕ UU ℕ

/-! ## The two slots of a buffer -/

section Slots
variable {α : Type} {a b : ℕ}

/-- Slot `s` of contents `f`. -/
def slotOf (f : (Sh3 2 a b).Idx → α) (s : Fin 2) : (Sh2 a b).Idx → α := fun i => f (ix3 s (i 0) (i 1))

theorem lift3_slotOf (f : (Sh3 2 a b).Idx → α) (s : Fin 2) (n : ℕ) (hn : s.val = n) : ∀ i ∈ slotSet a b n, f i = lift3 (slotOf f s) i := by
  subst hn
  intro i hi
  have h0 : i 0 = s := Fin.ext (mem_slotSet.mp hi)
  unfold lift3 slotOf
  subst h0
  congr 1
  exact eq_ix3 i

theorem slots_univ : (Finset.univ : Finset (Sh3 2 a b).Idx) = slotSet a b 0 ∪ slotSet a b 1 := by
  ext i
  rw [Finset.mem_union, mem_slotSet, mem_slotSet]
  have h : (i 0).val < 2 := (i 0).isLt
  exact ⟨fun _ => by omega, fun _ => Finset.mem_univ _⟩

theorem slots_disjoint : Disjoint (slotSet a b 0) (slotSet a b 1) := by
  rw [Finset.disjoint_left]; intro i; rw [mem_slotSet, mem_slotSet]; omega

/-- A whole two-slot buffer is its two slots, whatever `P S f`, the elements `S` held at `f`, is; -/
theorem slots_split (P : Finset (Sh3 2 a b).Idx → ((Sh3 2 a b).Idx → α) → sProp 𝕄)
    (hc : ∀ S f g, (∀ i ∈ S, f i = g i) → P S f = P S g) (hu : ∀ S T f, Disjoint S T → P (S ∪ T) f ⊢ iprop(P S f ∗ P T f)) :
    iprop(∃ f, P Finset.univ f) ⊢ iprop((∃ V, P (slotSet a b 0) (lift3 V)) ∗ (∃ V, P (slotSet a b 1) (lift3 V))) := by
  rw [slots_univ]
  iintro ⟨%f, H⟩
  ihave H := (hu _ _ f slots_disjoint) $$ H
  icases H with ⟨H0, H1⟩
  isplitl [H0]
  · iexists (slotOf f 0)
    iapply (Entails.of_eq (hc _ _ _ (lift3_slotOf f 0 0 rfl))); iexact H0
  · iexists (slotOf f 1)
    iapply (Entails.of_eq (hc _ _ _ (lift3_slotOf f 1 1 rfl))); iexact H1

/-- and back. -/
theorem slots_join (P : Finset (Sh3 2 a b).Idx → ((Sh3 2 a b).Idx → α) → sProp 𝕄)
    (hj : ∀ S T f g, Disjoint S T → iprop(P S f ∗ P T g) ⊢ P (S ∪ T) (T.piecewise g f)) :
    iprop((∃ V, P (slotSet a b 0) (lift3 V)) ∗ (∃ V, P (slotSet a b 1) (lift3 V))) ⊢ iprop(∃ f, P Finset.univ f) := by
  rw [slots_univ]
  iintro ⟨⟨%V, H0⟩, ⟨%V', H1⟩⟩
  iexists _
  iapply (hj _ _ (lift3 V) (lift3 V') slots_disjoint)
  isplitl [H0]; · iexact H0
  iexact H1

end Slots

variable (X : Dev nD → Blk F) (c : Dev nD)

theorem v_split : iprop(∃ f, ((c : Thread nD τ).loc cc0_scratch0) ↦{fullShare} f) ⊢ (iprop((∃ V, vPts c 0 V) ∗ (∃ V, vPts c 1 V)) : sProp 𝕄) :=
  slots_split (a := 512) (b := 4096) (fun S f => ((c : Thread nD τ).loc cc0_scratch0) ↦[S]{fullShare} f)
    (fun _ _ _ h => pointsTo_congr h) (fun _ _ _ h => (pointsTo_union h).1)
theorem v_join : iprop((∃ V, vPts c 0 V) ∗ (∃ V, vPts c 1 V)) ⊢ (iprop(∃ f, ((c : Thread nD τ).loc cc0_scratch0) ↦{fullShare} f) : sProp 𝕄) :=
  slots_join (a := 512) (b := 4096) (fun S f => ((c : Thread nD τ).loc cc0_scratch0) ↦[S]{fullShare} f)
    (fun _ _ _ _ h => pointsTo_join h)
theorem o_split : iprop(∃ f, ((c : Thread nD τ).loc cc0_scratch1) ↦{fullShare} f) ⊢ (iprop((∃ V, oPts c 0 V) ∗ (∃ V, oPts c 1 V)) : sProp 𝕄) :=
  slots_split (a := 512) (b := 4096) (fun S f => ((c : Thread nD τ).loc cc0_scratch1) ↦[S]{fullShare} f)
    (fun _ _ _ h => pointsTo_congr h) (fun _ _ _ h => (pointsTo_union h).1)
theorem o_join : iprop((∃ V, oPts c 0 V) ∗ (∃ V, oPts c 1 V)) ⊢ (iprop(∃ f, ((c : Thread nD τ).loc cc0_scratch1) ↦{fullShare} f) : sProp 𝕄) :=
  slots_join (a := 512) (b := 4096) (fun S f => ((c : Thread nD τ).loc cc0_scratch1) ↦[S]{fullShare} f)
    (fun _ _ _ _ h => pointsTo_join h)
theorem t_split : iprop(∃ f, ((c : Thread nD τ).loc cc0_scratch2) ↦{fullShare} f) ⊢ (iprop((∃ V, tPts c 0 V) ∗ (∃ V, tPts c 1 V)) : sProp 𝕄) :=
  slots_split (a := 1) (b := 4096) (fun S f => ((c : Thread nD τ).loc cc0_scratch2) ↦[S]{fullShare} f)
    (fun _ _ _ h => pointsTo_congr h) (fun _ _ _ h => (pointsTo_union h).1)
theorem t_join : iprop((∃ V, tPts c 0 V) ∗ (∃ V, tPts c 1 V)) ⊢ (iprop(∃ f, ((c : Thread nD τ).loc cc0_scratch2) ↦{fullShare} f) : sProp 𝕄) :=
  slots_join (a := 1) (b := 4096) (fun S f => ((c : Thread nD τ).loc cc0_scratch2) ↦[S]{fullShare} f)
    (fun _ _ _ _ h => pointsTo_join h)
theorem b_split : iprop(∃ f, ((c : Thread nD τ).loc cc0_scratch3) ↦{fullShare} f) ⊢ (iprop((∃ V, bPts c 0 V) ∗ (∃ V, bPts c 1 V)) : sProp 𝕄) :=
  slots_split (a := 1) (b := 4096) (fun S f => ((c : Thread nD τ).loc cc0_scratch3) ↦[S]{fullShare} f)
    (fun _ _ _ h => pointsTo_congr h) (fun _ _ _ h => (pointsTo_union h).1)
theorem b_join : iprop((∃ V, bPts c 0 V) ∗ (∃ V, bPts c 1 V)) ⊢ (iprop(∃ f, ((c : Thread nD τ).loc cc0_scratch3) ↦{fullShare} f) : sProp 𝕄) :=
  slots_join (a := 1) (b := 4096) (fun S f => ((c : Thread nD τ).loc cc0_scratch3) ↦[S]{fullShare} f)
    (fun _ _ _ _ h => pointsTo_join h)

/-! ## The output's rows -/

theorem rows_univ : (Finset.univ : Finset S4096x4096.Idx) = rowsSet 0 4096 := by
  ext i
  rw [mem_rowsSet]
  have h : (i 0).val < 4096 := (i 0).isLt
  exact ⟨fun _ => ⟨Nat.zero_le _, h⟩, fun _ => Finset.mem_univ _⟩

theorem oReg_whole (g : Blk F) : (((c : Thread nD τ).loc main_v1) ↦{fullShare} g : sProp 𝕄) = oReg c 0 4096 g :=
  congrArg (fun S => (((c : Thread nD τ).loc main_v1) ↦[S]{fullShare} g : sProp 𝕄)) rows_univ

/-! ## The body's two ends -/

/-- The semaphores only the device itself touches, at zero; the five protocol cells, at zero. -/
def locals : sProp 𝕄 :=
  iprop(semVal ((c : Thread nD τ), .dma (sIn 0)) 0 ∗ semVal ((c : Thread nD τ), .dma (sIn 1)) 0
    ∗ semVal ((c : Thread nD τ), .dma (sOut 0)) 0 ∗ semVal ((c : Thread nD τ), .dma (sOut 1)) 0
    ∗ semVal ((c : Thread nD τ), .dma sCB) 0 ∗ semVal ((c : Thread nD τ), .dma sH0) 0 ∗ semVal ((c : Thread nD τ), .dma sH1) 0)
def closed : sProp 𝕄 :=
  iprop(semVal (barCell c) 0 ∗ semVal (dCell sRowS c) 0 ∗ semVal (dCell rRowS c) 0 ∗ semVal (dCell sColS c) 0 ∗ semVal (dCell rColS c) 0)

/-- The scratch buffers. -/
def scratch : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f) ∗ (∃ f, ((c : Thread nD τ).loc cc0_scratch3) ↦{fullShare} f)
    ∗ (∃ f, rrPts c f) ∗ (∃ f, cbPts c f) ∗ (∃ f, scPts c f) ∗ (∃ f, rcPts c f))

/-- What a device's body starts from, and what it leaves. -/
def bodyPre (f0 : Blk F) : sProp 𝕄 :=
  iprop(start X c ∗ locals c ∗ scratch c ∗ xAny X c ∗ oReg c 0 4096 f0)
def bodyPost : sProp 𝕄 :=
  iprop(closed c ∗ locals c ∗ scratch c ∗ xAny X c ∗ oReg c 0 4096 (G X c))

/-! ## The loop -/

theorem wp_loop (f0 : Blk F) (v2 v5 c0 c1 : BitVec 32) :
    Inv X c f0 0 ⊢ wp frame (wpE defs₀ 𝒱₀ (c : Thread nD τ) none) Set.univ
      (Scf.Loop.for k0_t1_loop k0_t1_ok ⟨⟩ (tripP c v2 v5 c0 c1)) (fun _ => Inv X c f0 8) := by
  iintro H
  iapply (Scf.wp_for frame (wpE defs₀ 𝒱₀ (c : Thread nD τ) none) Set.univ k0_t1_loop.lb k0_t1_loop.ub k0_t1_loop.st k0_t1_ok PUnit.unit
    (tripP (F := F) c v2 v5 c0 c1) (fun k _ => Inv X c f0 k) (fun k _ => wp_trip X c f0 k v2 v5 c0 c1))
  isplitl [H]; · iexact H
  iintro %_ H
  iexact H

/-- Before the first trip. -/
theorem inv_zero (f0 : Blk F) :
    iprop(First X c ∗ Idle c 1 ∗ OFree c 0 ∗ OFree c 1 ∗ rcPts c (colIn X c) ∗ oReg c 0 4096 f0 ∗ xAny X c ∗ ∃ W, owes (c : Thread nD τ) 0 W)
      ⊢ Inv X c f0 0 := by
  have he : oReg c 0 0 f0 = oReg c 0 0 (G X c) := by
    unfold oReg
    exact pointsTo_congr fun i hi => absurd (mem_rowsSet.mp hi) (by omega)
  unfold Inv Pre1 Arr HIf OSlot Done
  rw [if_pos rfl, if_neg (by omega), if_pos (by omega), if_pos (by omega)]
  iintro ⟨HF, HI, HO0, HO1, HC, HR, Hx, HO⟩
  ihave HR := (oReg_split c 0 0 4096 (by omega) (by omega) f0) $$ HR
  icases HR with ⟨HZ, HR⟩
  ihave HZ := (Entails.of_eq he) $$ HZ
  isplitl [HF HI HO0 HZ Hx HO]
  · isplitl [HF]; · iexact HF
    isplitr; · iempintro
    isplitl [HI]; · iexact HI
    isplitl [HO0]; · iexact HO0
    isplitl [HZ]; · iexact HZ
    isplitl [Hx]; · iexact Hx
    iexact HO
  isplitl [HO1]; · iexact HO1
  isplitl [HC]; · iexact HC
  iexact HR

/-- After the last. -/
theorem inv_last (f0 : Blk F) :
    Inv X c f0 8 ⊢ iprop(Idle c 0 ∗ HIdle X c ∗ Idle c 1 ∗ OFly X c 6 ∗ OFly X c 7 ∗ oReg c 0 3072 (G X c) ∗ rcPts c (colIn X c)
      ∗ xAny X c ∗ ∃ W, owes (c : Thread nD τ) 0 W) := by
  unfold Inv Pre1 Arr Ahead HIf OSlot Done
  rw [if_neg (by omega), if_neg (by omega), if_neg (by omega), if_pos (by omega), if_neg (by omega), if_neg (by omega)]
  iintro ⟨⟨HA, HH, HI, HO0, HD, Hx, HO⟩, HO1, HC, -⟩
  isplitl [HA]; · iexact HA
  isplitl [HH]; · iexact HH
  isplitl [HI]; · iexact HI
  isplitl [HO0]; · iexact HO0
  isplitl [HO1]; · iexact HO1
  isplitl [HD]; · iexact HD
  isplitl [HC]; · iexact HC
  isplitl [Hx]; · iexact Hx
  iexact HO

/-! ## The five cells closed -/

theorem close_cell (s : SemLoc sig) (κ : ℕ) :
    iprop(cellInv ER (sched X) κ ((c : Thread nD τ), s) ∗ atPos ER ((c : Thread nD τ), s) 1 ∅ 0) ⊢ |={Set.univ}=> semVal ((c : Thread nD τ), s) 0 :=
  Rounds.cell_close ER (sched X) (Set.mem_univ κ) (fun h => h) (R := 0 + 1) (duties_later X _)

set_option maxHeartbeats 1600000 in
set_option maxRecDepth 8000 in
theorem wp_body (f0 : Blk F) :
    iprop(bodyPre X c f0 ∗ ∃ W, owes (c : Thread nD τ) (O₀ c) W)
      ⊢ wp frame (wpE defs₀ 𝒱₀ (c : Thread nD τ) none) Set.univ (bodyAt0 (F := F) t0_0)
        (fun _ => iprop(bodyPost X c ∗ ∃ W, owes (c : Thread nD τ) 0 W)) := by
  unfold bodyAt0
  simp only [cc0_body_eq_skeleton]
  unfold cc0_body_skel bodyPre start ghost poss payToks locals scratch
  iintro ⟨⟨⟨⟨%K, #HI, #HM, ⟨PB, PSR, PRR, PSC, PRC⟩, TBX, TBY, TSR, TRR, TSC, TRC⟩, CB, CR, CC, #HL⟩,
    ⟨I0, I1, U0, U1, SCB, SH0, SH1⟩, ⟨BV, BO, BT, BB, BRR, BCB, BSC, BRC⟩, Hx, Hout⟩, HO⟩
  iapply (wp_seg c (wp_part5 X c K)) $$ [PB TBX TBY TSR TRR CB HO BRR BRC Hx]
  · isplitr; · iexact HI
    isplitr; · iexact HM
    isplitr; · iexact HL
    isplitl [PB]; · iexact PB
    isplitl [TBX TBY TSR TRR]
    · isplitl [TBX]; · iexact TBX
      isplitl [TBY]; · iexact TBY
      isplitl [TSR]; · iexact TSR
      iexact TRR
    isplitl [CB]; · iexact CB
    isplitl [HO]; · iexact HO
    isplitl [BRR]; · iexact BRR
    isplitl [BRC]; · iexact BRC
    iexact Hx
  iintro %r ⟨%hr, PB, BRC, Hx, CSR, HO⟩
  obtain ⟨d0, v2, v5, v19⟩ := r
  have h0 : c = d0 := hr.1.symm
  have h1 : v2 = wx c := hr.2.1
  have h2 : v5 = wy c := hr.2.2
  subst h0 h1 h2
  clear hr
  iapply (wp_seg _ (wp_part6 X _ K _ v19)) $$ [TSC TRC PSR CSR BRC Hx BCB BSC SCB HO]
  · isplitr; · iexact HI
    isplitr; · iexact HM
    isplitr; · iexact HL
    isplitl [TSC TRC]
    · isplitl [TSC]; · iexact TSC
      iexact TRC
    isplitl [PSR]; · iexact PSR
    isplitl [CSR]; · iexact CSR
    isplitl [BRC]; · iexact BRC
    isplitl [Hx]; · iexact Hx
    isplitl [BCB]; · iexact BCB
    isplitl [BSC]; · iexact BSC
    isplitl [SCB]; · iexact SCB
    iexact HO
  iintro %v41 ⟨PSR, CSC, Hx, BCB, SCB, HO⟩
  ihave BV := (v_split _) $$ BV
  icases BV with ⟨V0, V1⟩
  ihave BT := (t_split _) $$ BT
  icases BT with ⟨T0, T1⟩
  ihave BB := (b_split _) $$ BB
  icases BB with ⟨B0, B1⟩
  ihave BO := (o_split _) $$ BO
  icases BO with ⟨W0, W1⟩
  iapply (wp_seg _ (wp_part7 X _ K _ v41)) $$ [PRR PSC PRC CR CSC CC I0 V0 T0 B0 SH0 SH1 Hx HO]
  · isplitr; · iexact HI
    isplitl [PRR PSC PRC]
    · isplitl [PRR]; · iexact PRR
      isplitl [PSC]; · iexact PSC
      iexact PRC
    isplitl [CR CSC CC]
    · isplitl [CR]; · iexact CR
      isplitl [CSC]; · iexact CSC
      iexact CC
    isplitl [I0 V0 T0 B0]
    · unfold Idle
      isplitl [I0]; · iexact I0
      isplitl [V0]; · iexact V0
      isplitl [T0]; · iexact T0
      iexact B0
    isplitl [SH0]; · iexact SH0
    isplitl [SH1]; · iexact SH1
    isplitl [Hx]; · iexact Hx
    iexact HO
  iintro %r ⟨⟨PRR, PSC, PRC⟩, HF, BSC, BRC, Hx, HO⟩
  obtain ⟨c0, c1⟩ := r
  iapply (wp_seg _ (wp_loop X _ f0 _ _ c0 c1)) $$ [HF I1 V1 T1 B1 W0 U0 W1 U1 BRC Hout Hx HO]
  · iapply (inv_zero X _ f0)
    isplitl [HF]; · iexact HF
    isplitl [I1 V1 T1 B1]
    · unfold Idle
      isplitl [I1]; · iexact I1
      isplitl [V1]; · iexact V1
      isplitl [T1]; · iexact T1
      iexact B1
    isplitl [W0 U0]
    · unfold OFree
      isplitl [W0]; · iexact W0
      iexact U0
    isplitl [W1 U1]
    · unfold OFree
      isplitl [W1]; · iexact W1
      iexact U1
    isplitl [BRC]; · iexact BRC
    isplitl [Hout]; · iexact Hout
    isplitl [Hx]; · iexact Hx
    iexact HO
  iintro %_ H
  ihave H := (inv_last X _ f0) $$ H
  unfold Idle HIdle OFly
  icases H with ⟨⟨I0, V0, T0, B0⟩, ⟨BRR, SH0, SH1⟩, ⟨I1, V1, T1, B1⟩, F6, F7, HD, BRC, Hx, HO⟩
  simp only [Prog.lift, Prog.bind_op, Prog.bind_ret, Prog.pure_eq_ret]
  iapply (wait_one _ (sm' := sOut 6) (sem_out _ 6 rfl _) (J := No) rfl) $$ [F6 HO]
  · isplitl [F6]; · iexact F6
    iexact HO
  iintro ⟨⟨HR6, W0⟩, U0, HO⟩
  iapply (wait_one _ (sm' := sOut 7) (sem_out _ 7 rfl _) (J := No) rfl) $$ [F7 HO]
  · isplitl [F7]; · iexact F7
    iexact HO
  iintro ⟨⟨HR7, W1⟩, U1, HO⟩
  unfold invs
  icases HI with ⟨#HIb, #HIs, #HIr, #HIt, #HIu, -⟩
  imod (close_cell X _ _ _) $$ [PB] with ZB
  · isplitr; · iexact HIb
    iexact PB
  imod (close_cell X _ _ _) $$ [PSR] with ZSR
  · isplitr; · iexact HIs
    iexact PSR
  imod (close_cell X _ _ _) $$ [PRR] with ZRR
  · isplitr; · iexact HIr
    iexact PRR
  imod (close_cell X _ _ _) $$ [PSC] with ZSC
  · isplitr; · iexact HIt
    iexact PSC
  imod (close_cell X _ _ _) $$ [PRC] with ZRC
  · isplitr; · iexact HIu
    iexact PRC
  ihave HD := (oReg_join _ 0 3072 3584 (by omega) (by omega) _) $$ [HD HR6]
  · isplitl [HD]; · iexact HD
    iexact HR6
  ihave HD := (oReg_join _ 0 3584 4096 (by omega) (by omega) _) $$ [HD HR7]
  · isplitl [HD]; · iexact HD
    iexact HR7
  ihave BV := (v_join _) $$ [V0 V1]
  · isplitl [V0]; · iexact V0
    iexact V1
  ihave BT := (t_join _) $$ [T0 T1]
  · isplitl [T0]; · iexact T0
    iexact T1
  ihave BB := (b_join _) $$ [B0 B1]
  · isplitl [B0]; · iexact B0
    iexact B1
  ihave BO := (o_join _) $$ [W0 W1]
  · isplitl [W0]
    · iexists _; iexact W0
    iexists _; iexact W1
  rw [wp_ret]
  imodintro
  unfold bodyPost closed locals scratch
  isplitr [HO]
  · isplitl [ZB ZSR ZRR ZSC ZRC]
    · isplitl [ZB]; · iexact ZB
      isplitl [ZSR]; · iexact ZSR
      isplitl [ZRR]; · iexact ZRR
      isplitl [ZSC]; · iexact ZSC
      iexact ZRC
    isplitl [I0 I1 U0 U1 SCB SH0 SH1]
    · isplitl [I0]; · iexact I0
      isplitl [I1]; · iexact I1
      isplitl [U0]; · iexact U0
      isplitl [U1]; · iexact U1
      isplitl [SCB]; · iexact SCB
      isplitl [SH0]; · iexact SH0
      iexact SH1
    isplitl [BV BO BT BB BRR BCB BSC BRC]
    · isplitl [BV]; · iexact BV
      isplitl [BO]; · iexact BO
      isplitl [BT]; · iexact BT
      isplitl [BB]; · iexact BB
      isplitl [BRR]; · iexists _; iexact BRR
      isplitl [BCB]; · iexact BCB
      isplitl [BSC]; · iexists _; iexact BSC
      iexists _; iexact BRC
    isplitl [Hx]; · iexact Hx
    iexact HD
  iexact HO

end Cert.Stencil

end
-- ==== Proof.Run.lean ====
/-
# The launch and the run

The protocol's cells and duty tokens are made once for the mesh and dealt out: every device keeps its positions at its own five
cells and gets the tokens of the duties it pays, which are its peers' where the duty is on a peer's cell. From the body of one
device the run of the whole mesh follows: it terminates, `x` is unchanged, the output holds `G X c` on device `c`, and every
semaphore reads zero.
-/
module

public import proofs.«01_k».proof.Proof.Body
public import Idealize.ShloMosaic.Lib.Pipeline.CollectiveSegs

@[expose] public section

noncomputable section

namespace Cert.Stencil

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]
local notation "𝕄" => MT nD τ sig Unit (Elt F) ℕ UU ℕ

/-! ## The pipeline's data: no windows, one point -/

section Data
variable (m : (ℓ : Loc nD τ sig) → Buf (Elt F) ℓ) (ρ : Dev nD → PrngReg)

/-- The devices' blocks of `x` at launch, and what the outputs held. -/
abbrev xAt (c : Dev nD) : Blk F := m ((c : Thread nD τ).loc main_arg0)
abbrev outAt (c : Dev nD) : Blk F := m ((c : Thread nD τ).loc main_v1)

def dats (_ : Fin 1) (c : Dev nD) : Dat τ (Elt F) Unit ℕ UU ℕ cfg0 c where
  A w := m ((cfg0.win w).arr.view.loc (c : Thread nD τ))
  after w _ := Fin.elim0 (show Fin 0 from w)
  Φ t := match t with
    | ⟨0, _⟩ => bodyPre (xAt m) c (outAt m c)
    | ⟨_ + 1, _⟩ => bodyPost (xAt m) c
  q _ := fullShare
  owed t := match t with
    | ⟨0, _⟩ => O₀ c
    | ⟨_ + 1, _⟩ => 0

theorem no_windows (Φ : Fin cfg0.W → sProp 𝕄) : bigSep Finset.univ Φ = iprop(emp) := by
  show bigSep (Finset.univ : Finset (Fin 0)) Φ = _
  rw [Finset.univ_eq_empty, bigSep_empty]
  rfl

set_option maxRecDepth 4000 in
/-- What the library asks of the body on device `c`. -/
theorem body_obligation (c : Dev nD) : BodyObligation (dats (F := F) m 0 c) (defs₀ (F := F)) 𝒱₀ () Set.univ := fun t => by
  rw [fin_N0 t]
  rw [no_windows, no_windows]
  show iprop(bodyPre (xAt m) c (outAt m c) ∗ (dats m 0 c).owesAt () t0_0.castSucc ∗ emp)
    ⊢ wp frame (wpE (defs₀ (F := F)) 𝒱₀ (c : Thread nD τ) none) Set.univ (bodyAt0 (F := F) t0_0)
      (fun _ => iprop(bodyPost (xAt m) c ∗ (dats m 0 c).owesAt () t0_0.succ ∗ emp))
  unfold Dat.owesAt Pipeline.owesWithin
  rw [show (dats m 0 c).owed t0_0.castSucc = O₀ c from rfl, show (dats m 0 c).owed t0_0.succ = 0 from rfl]
  iintro ⟨HP, ⟨%W, %hW, HO⟩, -⟩
  iapply wp_wand_r $$ [HP HO]
  isplitl [HP HO]
  · iapply (wp_body (xAt m) c (outAt m c))
    isplitl [HP]; · iexact HP
    iexists W; iexact HO
  iintro %_ ⟨HP, ⟨%W', HO⟩⟩
  isplitl [HP]; · iexact HP
  isplitl [HO]
  · iexists W'
    isplitr; · ipureintro; exact fun _ _ => Or.inl trivial
    iexact HO
  iempintro

end Data

/-! ## Cells and tokens -/

/-- The kernel's eleven copy semaphores. -/
abbrev osem : Fin 11 → SemLoc sig := fun k => .dma k

theorem ownSemFacts : Pipeline.OwnSemFacts cfg0.spec osem := by decide

theorem kcell_injective : Function.Injective (kcell : Dev nD × Fin 5 → GSem nD τ sig) := by
  rintro ⟨c, k⟩ ⟨c', k'⟩ h
  have hc : c = c' := congrArg (fun g : GSem nD τ sig => g.1.1) h
  have hk : csem k = csem k' := congrArg Prod.snd h
  have hi : Function.Injective csem := by decide
  rw [hc, hi hk]

def ringCells : Finset (GSem nD τ sig) := Finset.univ.map ⟨kcell, kcell_injective⟩

/-- The duties of device `c`'s own cells, by number. -/
abbrev tokOf (cj : Dev nD × Fin 6) : GSem nD τ sig × ℕ × Bool := match cj.2 with
  | 0 => (barCell cj.1, 0, false) | 1 => (barCell cj.1, 0, true)
  | 2 => (dCell sRowS cj.1, 0, false) | 3 => (dCell rRowS cj.1, 0, false)
  | 4 => (dCell sColS cj.1, 0, false) | 5 => (dCell rColS cj.1, 0, false)

theorem tokOf_injective : Function.Injective (tokOf : Dev nD × Fin 6 → GSem nD τ sig × ℕ × Bool) := by
  rintro ⟨c, j⟩ ⟨c', j'⟩ h
  have hc : c = c' := by
    have := congrArg (fun x : GSem nD τ sig × ℕ × Bool => x.1.1.1) h
    fin_cases j <;> fin_cases j' <;> exact this
  subst hc
  have hj : j = j' := by
    have := congrArg (fun x : GSem nD τ sig × ℕ × Bool => (x.1.2, x.2.2)) h
    fin_cases j <;> fin_cases j' <;> first | rfl | (exfalso; revert this; simp; done) | (exfalso; revert this; simp; decide)
  rw [hj]

def ringToks : Finset (GSem nD τ sig × ℕ × Bool) := Finset.univ.map ⟨tokOf, tokOf_injective⟩

def u₀ : UU :=
  (initOf (Pipeline.cells cfgs cellOf_inj) (Pipeline.launchToks cfgs cellOf_inj), (initOf ringCells ringToks, (1 : Counters)))

theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

variable (X : Dev nD → Blk F)

/-- The duty tokens of device `c`'s own cells. -/
def toks (c : Dev nD) : sProp 𝕄 :=
  iprop(dutyTok ER (barCell c) 0 false ∗ dutyTok ER (barCell c) 0 true ∗ dutyTok ER (dCell sRowS c) 0 false
    ∗ dutyTok ER (dCell rRowS c) 0 false ∗ dutyTok ER (dCell sColS c) 0 false ∗ dutyTok ER (dCell rColS c) 0 false)

/-- What the launch deals device `c`, and what it has once the cells are set up. -/
def deal (c : Dev nD) : sProp 𝕄 :=
  iprop((bigSep Finset.univ fun k : Fin 5 => roundState ER (sched X) (kcell (c, k)) 0)
    ∗ (bigSep Finset.univ fun k : Fin 5 => iprop(atPos ER (kcell (c, k)) 0 ∅ 0 ∗ reached ER (kcell (c, k)) 0)) ∗ toks c)
def dealt (c : Dev nD) : sProp 𝕄 := iprop((∃ K, ghost X K c) ∗ locals c)

theorem fund_cells : BI.own (ER (initOf ringCells ringToks)) ⊢ (|==> bigSep Finset.univ (deal X) : sProp 𝕄) := by
  have hX (Φ : GSem nD τ sig → sProp 𝕄) : bigSep ringCells Φ = bigSep Finset.univ fun c : Dev nD => bigSep Finset.univ fun k : Fin 5 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_fin6]; rfl
  iintro HX
  imod (Rounds.fund ER (sched X) ringCells ringToks) $$ HX with ⟨Hst, Hr, Hat, Htok⟩
  imodintro
  ihave Hst' := (Entails.of_eq (hX fun g => roundState ER (sched X) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold deal; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop(semVal (dCell sRowS c) 0 ∗ semVal (dCell sColS c) 0 ∗ semVal (dCell rRowS c) 0 ∗ semVal (dCell rColS c) 0
      ∗ semVal (dCell (sIn 0) c) 0 ∗ semVal (dCell (sIn 1) c) 0 ∗ semVal (dCell (sOut 0) c) 0 ∗ semVal (dCell (sOut 1) c) 0
      ∗ semVal (dCell sCB c) 0 ∗ semVal (dCell sH0 c) 0 ∗ semVal (dCell sH1 c) 0) := by
  rw [Pipeline.ownSems0_eq_of_list c osem [0, 1, 2, 3, 4, 5, 6, 7, 8, 9, 10] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's semaphores at zero: its protocol cells', and the local ones. -/
theorem sems0_split (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 5 => semVal (kcell (c, k)) 0) ∗ locals c) : sProp 𝕄) := by
  rw [ownSems0_eq, unscopedSems0_eq, bigSep_fin5]
  unfold locals
  iintro ⟨⟨H0, H1, H2, H3, HL⟩, HB⟩
  isplitr [HL]
  · isplitl [HB]; · iexact HB
    isplitl [H0]; · iexact H0
    isplitl [H2]; · iexact H2
    isplitl [H1]; · iexact H1
    iexact H3
  iexact HL

/-- Device `c`'s five cells set up. -/
theorem core_alloc (c : Dev nD) :
    iprop(Pipeline.ownSems0 (Ix := Unit) (Name := ℕ) (U := UU) (Lvl := ℕ) (Val := Elt F) (τ := τ) osem c ∗ unscopedSems0 c ∗ deal X c)
      ⊢ |={Set.univ}=> iprop((bigSep Finset.univ fun k => iprop(∃ κ : ℕ, cellInv ER (sched X) κ (kcell (c, k))))
          ∗ (bigSep Finset.univ fun k => iprop(atPos ER (kcell (c, k)) 0 ∅ 0 ∗ reached ER (kcell (c, k)) 0)) ∗ toks c ∗ locals c) := by
  unfold deal
  iintro ⟨Hos, Hus, Hst, Hat, Htok⟩
  ihave Hv := (sems0_split (F := F) c) $$ [Hos Hus]
  · isplitl [Hos] <;> iassumption
  icases Hv with ⟨Hv, HL⟩
  imod (show iprop((bigSep Finset.univ fun k : Fin 5 => semVal (kcell (c, k)) 0) ∗ bigSep Finset.univ fun k : Fin 5 => roundState ER (sched X) (kcell (c, k)) 0)
      ⊢ (|={Set.univ}=> bigSep Finset.univ fun k => iprop(∃ κ : ℕ, cellInv ER (sched X) κ (kcell (c, k))) : sProp 𝕄) from by
        rw [← bigSep_sep']
        exact (bigSep_mono fun k _ => (Rounds.body_intro ER (sched X) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact HL

/-- What every device may know of every cell. -/
def records (K : Dev nD × Fin 5 → ℕ) : sProp 𝕄 :=
  iprop((bigSep Finset.univ fun ck : Dev nD × Fin 5 => cellInv ER (sched X) (K ck) (kcell ck))
    ∗ bigSep Finset.univ fun ck : Dev nD × Fin 5 => reached ER (kcell ck) 0)

instance records_persistent (K : Dev nD × Fin 5 → ℕ) : BI.Persistent (records X K) := by unfold records; infer_instance

theorem inv_at (K : Dev nD × Fin 5 → ℕ) (ck : Dev nD × Fin 5) :
    (bigSep Finset.univ fun ck : Dev nD × Fin 5 => (cellInv ER (sched X) (K ck) (kcell ck) : sProp 𝕄)) ⊢ cellInv ER (sched X) (K ck) (kcell ck) :=
  bigSep_elim (Finset.mem_univ ck)
theorem reached_at (ck : Dev nD × Fin 5) :
    (bigSep Finset.univ fun ck : Dev nD × Fin 5 => (reached ER (kcell ck) 0 : sProp 𝕄)) ⊢ reached ER (kcell ck) 0 :=
  bigSep_elim (Finset.mem_univ ck)

theorem ghost_intro (K : Dev nD × Fin 5 → ℕ) (c : Dev nD) : iprop(records X K ∗ (poss c ∗ payToks c ∗ locals c)) ⊢ dealt X c := by
  unfold records dealt ghost invs marks
  iintro ⟨⟨#HI, #HR⟩, HP, HT, HL⟩
  isplitr [HL]
  · iexists K
    isplitr
    · isplitr; · iapply (inv_at X K (c, 0)); iexact HI
      isplitr; · iapply (inv_at X K (c, 1)); iexact HI
      isplitr; · iapply (inv_at X K (c, 2)); iexact HI
      isplitr; · iapply (inv_at X K (c, 3)); iexact HI
      isplitr; · iapply (inv_at X K (c, 4)); iexact HI
      isplitr; · iapply (inv_at X K (px c, 0)); iexact HI
      isplitr; · iapply (inv_at X K (py c, 0)); iexact HI
      isplitr; · iapply (inv_at X K (px c, 2)); iexact HI
      iapply (inv_at X K (py c, 4)); iexact HI
    isplitr
    · isplitr; · iapply (reached_at (F := F) (px c, 0)); iexact HR
      isplitr; · iapply (reached_at (F := F) (py c, 0)); iexact HR
      isplitr; · iapply (reached_at (F := F) (c, 1)); iexact HR
      isplitr; · iapply (reached_at (F := F) (c, 2)); iexact HR
      isplitr; · iapply (reached_at (F := F) (c, 3)); iexact HR
      isplitr; · iapply (reached_at (F := F) (c, 4)); iexact HR
      isplitr; · iapply (reached_at (F := F) (px c, 2)); iexact HR
      iapply (reached_at (F := F) (py c, 4)); iexact HR
    isplitl [HP]; · iexact HP
    iexact HT
  iexact HL

/-- The tokens dealt across the mesh: the barrier's and the receives' to the peers that pay them. -/
theorem toks_across : (bigSep Finset.univ fun c : Dev nD => (toks c : sProp 𝕄)) ⊢ bigSep Finset.univ fun c : Dev nD => payToks c := by
  unfold toks payToks
  simp only [bigSep_sep']
  rw [bigSep_univ_equiv swapX (fun c : Dev nD => (dutyTok ER (barCell c) 0 false : sProp 𝕄)),
    bigSep_univ_equiv swapY (fun c : Dev nD => (dutyTok ER (barCell c) 0 true : sProp 𝕄)),
    bigSep_univ_equiv swapX (fun c : Dev nD => (dutyTok ER (dCell rRowS c) 0 false : sProp 𝕄)),
    bigSep_univ_equiv swapY (fun c : Dev nD => (dutyTok ER (dCell rColS c) 0 false : sProp 𝕄))]
  exact .rfl

/-- Something every device may know, used for each. -/
theorem bigSep_knowing {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched X) κ (kcell (c, k))))
          ∗ (bigSep Finset.univ fun k => iprop(atPos ER (kcell (c, k)) 0 ∅ 0 ∗ reached ER (kcell (c, k)) 0)) ∗ toks c ∗ locals c) : sProp 𝕄)
      ⊢ bigSep Finset.univ (dealt X) := by
  rw [bigSep_sep', bigSep_sep', bigSep_sep', ← bigSep_univ_prod (fun ck : Dev nD × Fin 5 => iprop(∃ κ : ℕ, cellInv ER (sched X) κ (kcell ck))),
    bigSep_congr (s := Finset.univ) (fun (c : Dev nD) _ => bigSep_sep' Finset.univ (fun k : Fin 5 => (atPos ER (kcell (c, k)) 0 ∅ 0 : sProp 𝕄)) (fun k => reached ER (kcell (c, k)) 0)),
    bigSep_sep', ← bigSep_univ_prod (fun ck : Dev nD × Fin 5 => (reached ER (kcell ck) 0 : sProp 𝕄))]
  iintro ⟨HI, ⟨Hat, #HR⟩, Htok, HL⟩
  ihave HK := (BI.bigSep_exists_pi Finset.univ (fun (ck : Dev nD × Fin 5) (κ : ℕ) => (cellInv ER (sched X) κ (kcell ck) : sProp 𝕄))) $$ HI
  icases HK with ⟨%K, #HI⟩
  ihave Htk := (toks_across (F := F)) $$ Htok
  iapply (bigSep_knowing (R := records X K) fun c _ => ghost_intro X K c)
  isplitr
  · unfold records; isplitl; · iexact HI
    iexact HR
  · rw [bigSep_sep', bigSep_sep']
    isplitl [Hat]
    · iapply (Entails.of_eq (bigSep_congr (s := Finset.univ) fun (c : Dev nD) _ =>
        (bigSep_fin5 fun k : Fin 5 => (atPos ER (kcell (c, k)) 0 ∅ 0 : sProp 𝕄))))
      iexact Hat
    isplitl [Htk]; · iexact Htk
    iexact HL

theorem glob : (bigSep Finset.univ fun c => iprop(Pipeline.ownSems0 (Ix := Unit) (Name := ℕ) (U := UU) (Lvl := ℕ) (Val := Elt F) (τ := τ) osem c ∗ unscopedSems0 c ∗ deal X c) : sProp 𝕄)
    ⊢ |={Set.univ}=> bigSep Finset.univ (dealt X) :=
  ((bigSep_mono fun c _ => core_alloc X c).trans (bigSep_fupd _ _)).trans (BI.fupd_mono (regroup X))

/-! ## The launch credit -/

theorem bar_eq_iff {a b : Dev nD} : Iff (barCell a = barCell b) (a = b) :=
  ⟨fun h => congrArg (fun g : GSem nD τ sig => g.1.1) h, fun h => h ▸ rfl⟩
theorem dCell_eq_iff {s : DmaSem sig} {a b : Dev nD} : Iff (dCell s a = dCell s b) (a = b) :=
  ⟨fun h => congrArg (fun g : GSem nD τ sig => g.1.1) h, fun h => h ▸ rfl⟩
theorem dCell_ne_bar (s : DmaSem sig) (a b : Dev nD) : dCell s a ≠ barCell b := fun h => dma_ne_bar s (congrArg Prod.snd h)
theorem rCol_ne_rRow (a b : Dev nD) : dCell rColS a ≠ dCell rRowS b := fun h =>
  absurd (congrArg Prod.snd h) (show (SemLoc.dma rColS : SemLoc sig) ≠ .dma rRowS by decide)

/-- A credit at the image of `d` is one at `c` when `d` is the image of `c`. -/
theorem swap_iff {f : Dev nD → Dev nD} (hf : ∀ c, f (f c) = c) (c d : Dev nD) : c = f d ↔ d = f c :=
  ⟨fun h => by rw [h, hf], fun h => by rw [h, hf]⟩

theorem tally_bar (a c : Dev nD) (n : ℕ) : (tallyAt (barCell a) () n : CellTallies nD τ sig Unit) (barCell c) () = if c = a then n else 0 := by
  rw [tallyAt_apply]
  exact if_congr ⟨fun h => bar_eq_iff.mp h.1, fun h => ⟨bar_eq_iff.mpr h, rfl⟩⟩ rfl rfl
theorem tally_d (s : DmaSem sig) (a c : Dev nD) (n : ℕ) : (tallyAt (dCell s a) () n : CellTallies nD τ sig Unit) (dCell s c) () = if c = a then n else 0 := by
  rw [tallyAt_apply]
  exact if_congr ⟨fun h => dCell_eq_iff.mp h.1, fun h => ⟨dCell_eq_iff.mpr h, rfl⟩⟩ rfl rfl
theorem tally_ne {g g' : GSem nD τ sig} (h : g' ≠ g) (n : ℕ) : (tallyAt g () n : CellTallies nD τ sig Unit) g' () = 0 := by
  rw [tallyAt_apply]; exact if_neg fun h' => h h'.1

/-- What device `d` owes device `c`'s barrier cell and receive cells. -/
theorem owed_bar (d c : Dev nD) : O₀ d (barCell c) () = (if d = py c then 1 else 0) + (if d = px c then 1 else 0) := by
  unfold O₀ O₁ O₂
  simp only [Pi.add_apply, Finsupp.add_apply]
  rw [tally_ne (dCell_ne_bar _ _ _).symm, tally_ne (dCell_ne_bar _ _ _).symm, tally_bar, tally_bar, Nat.add_zero, Nat.zero_add,
    if_congr (swap_iff py_py c d) rfl rfl, if_congr (swap_iff px_px c d) rfl rfl]
theorem owed_rRow (d c : Dev nD) : O₀ d (dCell rRowS c) () = if d = px c then Nr else 0 := by
  unfold O₀ O₁ O₂
  simp only [Pi.add_apply, Finsupp.add_apply]
  rw [tally_ne (rCol_ne_rRow _ _).symm, tally_d, tally_ne (dCell_ne_bar _ _ _), tally_ne (dCell_ne_bar _ _ _), Nat.zero_add, Nat.add_zero,
    if_congr (swap_iff px_px c d) rfl rfl]
theorem owed_rCol (d c : Dev nD) : O₀ d (dCell rColS c) () = if d = py c then Nc else 0 := by
  unfold O₀ O₁ O₂
  simp only [Pi.add_apply, Finsupp.add_apply]
  rw [tally_ne (rCol_ne_rRow _ _), tally_d, tally_ne (dCell_ne_bar _ _ _), tally_ne (dCell_ne_bar _ _ _), Nat.add_zero,
    if_congr (swap_iff py_py c d) rfl rfl]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (py c) fun _ => 1, Finset.sum_ite_eq' Finset.univ (px c) fun _ => 1, if_pos (Finset.mem_univ _), if_pos (Finset.mem_univ _)]
theorem launch_rRow (c : Dev nD) :
    tallyOn (dCell rRowS c) (launchCredit (Pipeline.owing O₀) 0 (dCell rRowS c)) = (tallyAt (dCell rRowS c) () Nr : CellTallies nD τ sig Unit) := by
  unfold tallyAt; refine congrArg _ (Finsupp.ext fun u => ?_); cases u
  rw [Pipeline.launchCredit_owing, Finsupp.single_eq_same, Finset.sum_congr rfl fun d _ => owed_rRow d c, Finset.sum_ite_eq' Finset.univ (px c) fun _ => Nr,
    if_pos (Finset.mem_univ _)]
theorem launch_rCol (c : Dev nD) :
    tallyOn (dCell rColS c) (launchCredit (Pipeline.owing O₀) 0 (dCell rColS c)) = (tallyAt (dCell rColS c) () Nc : CellTallies nD τ sig Unit) := by
  unfold tallyAt; refine congrArg _ (Finsupp.ext fun u => ?_); cases u
  rw [Pipeline.launchCredit_owing, Finsupp.single_eq_same, Finset.sum_congr rfl fun d _ => owed_rCol d c, Finset.sum_ite_eq' Finset.univ (py c) fun _ => Nc,
    if_pos (Finset.mem_univ _)]

theorem creds (c : Dev nD) :
    (Pipeline.launchCred O₀ c : sProp 𝕄)
      ⊢ iprop(cred (tallyAt (barCell c) () 2) ∗ cred (tallyAt (dCell rRowS c) () Nr) ∗ cred (tallyAt (dCell rColS c) () Nc)) := by
  have hd : ({.reg barS, .dma rRowS, .dma rColS} : Finset (SemLoc sig)) ⊆ Finset.univ := Finset.subset_univ _
  unfold Pipeline.launchCred
  refine (bigSep_subset hd).trans ?_
  rw [bigSep_eq_bigSepL_of_eq [SemLoc.reg barS, SemLoc.dma rRowS, SemLoc.dma rColS] (by decide) (by decide)]
  rw [bigSepL_cons_cons, bigSepL_cons_cons, bigSepL_singleton]
  rw [← launch_bar, ← launch_rRow, ← launch_rCol]
  exact fun _ h => h

/-! ## The run -/

section Run
variable (m : (ℓ : Loc nD τ sig) → Buf (Elt F) ℓ) (ρ : Dev nD → PrngReg)

/-- What the device has when its body starts, but for the scratch buffers; what it has at the end. -/
def atStart (c : Dev nD) : sProp 𝕄 := iprop(start (xAt m) c ∗ locals c ∗ xAny (xAt m) c ∗ oReg c 0 4096 (outAt m c))
def atEnd (c : Dev nD) : sProp 𝕄 := iprop(unscopedSems0 c ∗ xAny (xAt m) c ∗ oReg c 0 4096 (G (xAt m) c))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ dealt (xAt m) c)
      ⊢ |={Set.univ}=> iprop(atStart m c ∗ emp) := by
  rw [Pipeline.unscopedRestP_none, unscopedRest0_eq, oReg_whole c (outAt m c)]
  unfold atStart dealt start xAny
  iintro ⟨⟨Hx, Ho⟩, Hlev, Hcr, -, HG, HL⟩
  ihave Hc := (creds (F := F) c) $$ Hcr
  icases Hc with ⟨H1, H2, H3⟩
  imodintro
  isplitl
  · isplitl [HG H1 H2 H3 Hlev]
    · isplitl [HG]; · iexact HG
      isplitl [H1]; · iexact H1
      isplitl [H2]; · iexact H2
      isplitl [H3]; · iexact H3
      iexact Hlev
    isplitl [HL]; · iexact HL
    isplitl [Hx]
    · iexists fullShare; iexact Hx
    iexact Ho
  · iempintro

theorem phi0_intro (c : Dev nD) :
    iprop(atStart m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = bodyPre (xAt m) c (outAt m c) from rfl, scopedRest0_eq]
  unfold atStart bodyPre
  iintro ⟨⟨Hs, HL, Hx, Ho⟩, -, Hscr⟩
  isplitl [Hs]; · iexact Hs
  isplitl [HL]; · iexact HL
  isplitl [Hscr]; · unfold scratch; iexact Hscr
  isplitl [Hx]; · iexact Hx
  iexact Ho

theorem phi1_exit (c : Dev nD) :
    (dats m 0 c).Φ (Fin.last cfg0.N) ⊢ iprop(atEnd m c ∗ Pipeline.ownSems0 osem c ∗ Pipeline.scopedRest cfg0.spec c) := by
  rw [show (dats m 0 c).Φ (Fin.last cfg0.N) = bodyPost (xAt m) c from rfl, scopedRest0_eq, ownSems0_eq]
  unfold atEnd
  rw [unscopedSems0_eq]
  unfold bodyPost closed locals
  iintro ⟨⟨HB, H0, H2, H1, H3⟩, HL, Hscr, Hx, Ho⟩
  isplitl [HB Hx Ho]
  · isplitl [HB]; · iexact HB
    isplitl [Hx]; · iexact Hx
    iexact Ho
  isplitr [Hscr]
  · isplitl [H0]; · iexact H0
    isplitl [H1]; · iexact H1
    isplitl [H2]; · iexact H2
    isplitl [H3]; · iexact H3
    iexact HL
  unfold scratch; iexact Hscr

theorem waits (c : Dev nD) : (levAts L lv : sProp 𝕄) ⊢ Pipeline.cellsWaits cfgs (dats m) () 0 c :=
  Pipeline.cellsWaits_intro cfgs (dats m) () 0 c fun w s t => Fin.elim0 (show Fin 0 from w)

/-- What is read of the memory at the end on device `c`. -/
def AtDev (c : Dev nD) (s : MemSt nD τ sig (Elt F)) : Prop :=
  s.mem ((c : Thread nD τ).loc main_arg0) = xAt m c ∧ s.mem ((c : Thread nD τ).loc main_v1) = G (xAt m) c

theorem read_end (c : Dev nD) (s' : Phys nD τ sig (Elt F)) :
    iprop(atEnd m c ∗ emp ∗ SI s') ⊢ (|={Set.univ}=> iprop(⌜AtDev m c s'.mem
      ∧ ∀ sm : SemLoc sig, sm.isScoped .tc = false → s'.mem.sem ((c.tc : Thread nD τ), sm) = 0⌝ ∗ SI s') : sProp 𝕄) := by
  unfold atEnd xAny
  rw [← oReg_whole]
  iintro ⟨⟨Hu, ⟨%q, Hx⟩, Ho⟩, -, HSI⟩
  icombine HSI Hx gives %hx
  icombine HSI Ho gives %ho
  imod (Pipeline.unscopedSems0_read (X := unscopedSems0 c) (c := c) fupd_intro s') $$ [Hu HSI] with ⟨%hs, HSI⟩
  · isplitl [Hu] <;> iassumption
  imodintro
  isplitr
  · ipureintro; exact ⟨⟨Buf.eq_of_forall_mem_univ hx, Buf.eq_of_forall_mem_univ ho⟩, hs⟩
  iexact HSI

set_option maxRecDepth 8000 in
/-- Every execution of the mesh's program terminates, leaves `x` as it was and `G` in the output, and every counter at zero. -/
theorem run_main : θ_run defs (onTc (τ := τ) (main (F := F))) ⟨m, fun _ => 0, ρ⟩ (fun r => (∀ c : Dev nD, AtDev m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => Fin.elim0 (show Fin 0 from w)) (harr := arr_whole0) (hstage := stage_whole0)
    (hshare := fun c w => Fin.elim0 (show Fin 0 from w)) (hdistinct := winFacts0.arr_inj)
    (O₀ := O₀) (howed₀ := fun _ => rfl) (howedN := fun _ => rfl)
    (L := L) (lv := lv) (hL := L_of_ne) (hwaits := waits m)
    (G := deal (xAt m)) (G' := dealt (xAt m)) (u₀ := u₀)
    (hu₀ := by
      unfold u₀
      iintro Hu
      ihave H := (ownU_pair _ _) $$ Hu
      icases H with ⟨HP, HX⟩
      ihave HX := (own_pair_emb embR (initOf ringCells ringToks) (1 : Counters)) $$ HX
      icases HX with ⟨HX, -⟩
      imod (fund_cells (xAt m)) $$ [HX] with HG
      · unfold ER; iexact HX
      imodintro
      isplitl [HP] <;> iassumption)
    (hglob := glob (xAt m))
    (hA := fun _ _ => rfl) (hpf := fun _ k => k.elim0)
    (X := atStart m) (Y := atEnd m) (Z := fun _ => iprop(emp))
    (hX := start_intro m ρ) (hin := phi0_intro m) (hout := phi1_exit m)
    (QY := fun c s => AtDev m c s ∧ ∀ sm : SemLoc sig, sm.isScoped .tc = false → s.sem ((c.tc : Thread nD τ), sm) = 0)
    (hY := read_end m)
    (hQ := fun _ h hs => ⟨fun c => (h c).2.2.1, sem_eq_zero hs fun c => (h c).2.2.2⟩)

end Run

end Cert.Stencil

end
-- ==== Proof.Frames.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run

@[expose] public section

/-! # The frames

Both readings of the kernel have one text, so the run proved for any float values gives the frame of each.
The reference has no semaphore at all, so its counters are zero whatever ran. -/

noncomputable section

namespace Cert.Stencil

open Idealize.ShloMosaic Idealize.SL.Sem Idealize.ShloMosaic.TcCoe

/-- The frame of the kernel read at floats as bit patterns. -/
theorem frame_kernel : Cert.quiescent_Kernel := fun m ρ _ =>
  (θ_run (Cert.KernelIdeal.defs (F := Bits)) _ _).mono (fun _ h => ⟨fun c => (h.1 c).1, h.2⟩)
    (run_main (F := Bits) m ρ)

/-- The frame of the kernel read at the extended reals. -/
theorem frame_kernelIdeal : Cert.quiescent_KernelIdeal := fun m ρ _ =>
  (θ_run (Cert.KernelIdeal.defs (F := Ideal)) _ _).mono (fun _ h => ⟨fun c => (h.1 c).1, h.2⟩)
    (run_main (F := Ideal) m ρ)

/-- The reference has no semaphore. -/
theorem noSem (c : Thread Cert.ReferenceIdeal.nD Cert.ReferenceIdeal.τ) (s : SemLoc Cert.ReferenceIdeal.sig) : False := by
  revert s; decide

/-- The frame of the reference. -/
theorem frame_referenceIdeal : Cert.quiescent_ReferenceIdeal := fun m ρ _ =>
  (θ_run (Cert.ReferenceIdeal.defs (F := Ideal)) _ _).mono
    (fun _ h => ⟨fun c => (h c).2, funext fun s => (noSem s.1 s.2).elim⟩)
    (Cert.ReferenceIdeal.Value.run (F := Ideal) m ρ)

end Cert.Stencil

end
-- ==== Proof.Grid.lean ====
/-
# Arrays given by a function of their two coordinates

`fn2 f` is the array whose element at row `i` and column `j` is `f i j`, for a function `f` of two naturals. The vector
operations of the kernel and of the reference take such arrays to such arrays, so that a value composed of them is one
expression in two naturals.
-/
module

public import proofs.«01_k».proof.Proof.Trip
public import Idealize.ShloMosaic.Lib.IdealHost
public import Idealize.ShloMosaic.Lib.KernelVsHost
public import Idealize.ShloMosaic.Lib.Pipeline.Value

@[expose] public section

noncomputable section

namespace Cert.Stencil

open Idealize.ShloMosaic Idealize.ShloMosaic.ValueIdx

section Ops

variable {α : Type} {a b h l : ℕ}

/-- The array whose element at `(i, j)` is `f i j`. -/
def fn2 (f : ℕ → ℕ → α) : (Sh2 a b).Idx → α := fun i => f (i 0).val (i 1).val
/-- The same with a leading axis of extent one. -/
def fn3 (f : ℕ → ℕ → α) : (Sh3 1 a b).Idx → α := fun i => f (i 1).val (i 2).val

theorem fn2_congr {f g : ℕ → ℕ → α} (e : ∀ i j, i < a → j < b → f i j = g i j) : (fn2 f : (Sh2 a b).Idx → α) = fn2 g :=
  funext fun i => e _ _ (i 0).isLt (i 1).isLt

theorem slice_fn2 (r c : ℕ) (f : ℕ → ℕ → α) (hs) :
    extractStridedSlice (Sh2 h l) ![r, c] (fn2 f : (Sh2 a b).Idx → α) hs = fn2 fun i j => f (r + i) (c + j) := rfl

theorem drop_fn3 (f : ℕ → ℕ → α) (hs) : shapeCast (Sh2 a b) (fn3 f : (Sh3 1 a b).Idx → α) hs = fn2 f := by
  funext i
  exact shapeCast_dropUnit_apply ![a, b] (fn3 f : (Sh3 1 a b).Idx → α) hs i

theorem add_fn2 (f : ℕ → ℕ → α) (hs) : shapeCast (Sh3 1 a b) (fn2 f : (Sh2 a b).Idx → α) hs = fn3 f := by
  funext i
  exact shapeCast_addUnit_apply ![a, b] (fn2 f : (Sh2 a b).Idx → α) hs i

theorem add_of {x : (Sh2 a b).Idx → α} {f : ℕ → ℕ → α} {hs} (hx : x = fn2 f) : shapeCast (Sh3 1 a b) x hs = fn3 f := by
  rw [hx, add_fn2]

theorem rot0_fn2 (n : BitVec 32) (m : ℕ) (hm : n.toNat % a = m) (f : ℕ → ℕ → α) (hs) :
    dynamicRotate (s := Sh2 a b) 0 n none (fn2 f) hs = fn2 fun i j => f ((i + a - m) % a) j := by
  subst hm
  funext i
  have ha : 0 < a := Nat.lt_of_le_of_lt (Nat.zero_le _) (i 0).isLt
  refine (dynamicRotate_apply (s := Sh2 a b) 0 n (fn2 f) hs i
    (ix2 (⟨((i 0).val + a - n.toNat % a) % a, Nat.mod_lt _ ha⟩ : Fin a) (i 1)) fun x => ?_).trans rfl
  match x with
  | ⟨0, _⟩ => rfl
  | ⟨1, _⟩ => rfl

theorem rot1_fn2 (n : BitVec 32) (m : ℕ) (hm : n.toNat % b = m) (f : ℕ → ℕ → α) (hs) :
    dynamicRotate (s := Sh2 a b) 1 n none (fn2 f) hs = fn2 fun i j => f i ((j + b - m) % b) := by
  subst hm
  funext i
  have hb : 0 < b := Nat.lt_of_le_of_lt (Nat.zero_le _) (i 1).isLt
  refine (dynamicRotate_apply (s := Sh2 a b) 1 n (fn2 f) hs i
    (ix2 (i 0) (⟨((i 1).val + b - n.toNat % b) % b, Nat.mod_lt _ hb⟩ : Fin b)) fun x => ?_).trans rfl
  match x with
  | ⟨0, _⟩ => rfl
  | ⟨1, _⟩ => rfl

/-- Two arrays one above the other; -/
theorem cat0_fn2 {p q n m : ℕ} (hpq : p + q = n) (f g : ℕ → ℕ → α) (hs) :
    concatenate (Sh2 n m) 0 [⟨Sh2 p m, fn2 f⟩, ⟨Sh2 q m, fn2 g⟩] hs = fn2 fun i j => if i < p then f i j else g (i - p) j := by
  funext i
  have hi : (i 0).val < n := (i 0).isLt
  show _ = if (i 0).val < p then _ else _
  by_cases hp : (i 0).val < p
  · rw [if_pos hp]
    refine (concatenate_pair_apply_left (t := Sh2 n m) (s₁ := Sh2 p m) (s₂ := Sh2 q m) 0 (fn2 f) (fn2 g) hs i rfl
      (ix2 (⟨(i 0).val, hp⟩ : Fin p) (i 1)) fun x => ?_).trans rfl
    match x with
    | ⟨0, _⟩ => rfl
    | ⟨1, _⟩ => rfl
  · rw [if_neg hp]
    refine (concatenate_pair_apply_right (t := Sh2 n m) (s₁ := Sh2 p m) (s₂ := Sh2 q m) 0 (fn2 f) (fn2 g) hs i rfl rfl
      (ix2 (⟨(i 0).val - p, by omega⟩ : Fin q) (i 1)) (fun x hx => ?_) ?_).trans rfl
    · match x with
      | ⟨0, _⟩ => exact (hx rfl).elim
      | ⟨1, _⟩ => rfl
    · show (i 0).val - p + p = (i 0).val
      omega

/-- and side by side. -/
theorem cat1_fn2 {p q n m : ℕ} (hpq : p + q = n) (f g : ℕ → ℕ → α) (hs) :
    concatenate (Sh2 m n) 1 [⟨Sh2 m p, fn2 f⟩, ⟨Sh2 m q, fn2 g⟩] hs = fn2 fun i j => if j < p then f i j else g i (j - p) := by
  funext i
  have hi : (i 1).val < n := (i 1).isLt
  show _ = if (i 1).val < p then _ else _
  by_cases hp : (i 1).val < p
  · rw [if_pos hp]
    refine (concatenate_pair_apply_left (t := Sh2 m n) (s₁ := Sh2 m p) (s₂ := Sh2 m q) 1 (fn2 f) (fn2 g) hs i rfl
      (ix2 (i 0) (⟨(i 1).val, hp⟩ : Fin p)) fun x => ?_).trans rfl
    match x with
    | ⟨0, _⟩ => rfl
    | ⟨1, _⟩ => rfl
  · rw [if_neg hp]
    refine (concatenate_pair_apply_right (t := Sh2 m n) (s₁ := Sh2 m p) (s₂ := Sh2 m q) 1 (fn2 f) (fn2 g) hs i rfl rfl
      (ix2 (i 0) (⟨(i 1).val - p, by omega⟩ : Fin q)) (fun x hx => ?_) ?_).trans rfl
    · match x with
      | ⟨0, _⟩ => rfl
      | ⟨1, _⟩ => exact (hx rfl).elim
    · show (i 1).val - p + p = (i 1).val
      omega

/-- A block stored into an array. -/
theorem setBlk_fn2 (r c : ℕ) (g f : ℕ → ℕ → α) :
    setBlk r c (fn3 g : (Sh3 1 h l).Idx → α) (fn2 f : (Sh2 a b).Idx → α)
      = fn2 fun i j => if (r ≤ i ∧ i < r + h) ∧ (c ≤ j ∧ j < c + l) then g (i - r) (j - c) else f i j := by
  funext i
  unfold setBlk
  by_cases hh : (r ≤ (i 0).val ∧ (i 0).val < r + h) ∧ (c ≤ (i 1).val ∧ (i 1).val < c + l)
  · rw [dif_pos hh]
    exact (if_pos hh).symm
  · rw [dif_neg hh]
    exact (if_neg hh).symm

end Ops

theorem blk3_fn2 {F : FTy → Type} {a b : ℕ} (f : ℕ → ℕ → Elt F .f32) : blk3 (F := F) (fn2 f : (Sh2 a b).Idx → Elt F .f32) = fn3 f := rfl

section AtIdeal

variable {a b : ℕ} {φ : FTy}

/-- The reals' arithmetic. -/
theorem addf_fn2 (f g : ℕ → ℕ → EReal) :
    (addf (fn2 f : FVec Ideal (Sh2 a b) φ) (fn2 g : FVec Ideal (Sh2 a b) φ) : FVec Ideal (Sh2 a b) φ) = fn2 fun i j => f i j + g i j := rfl
theorem mulf_fn2 (f g : ℕ → ℕ → EReal) :
    (mulf (fn2 f : FVec Ideal (Sh2 a b) φ) (fn2 g : FVec Ideal (Sh2 a b) φ) : FVec Ideal (Sh2 a b) φ) = fn2 fun i j => f i j * g i j := rfl

/-- The two weights; -/
def half : EReal := ((1 / 2 : ℝ) : EReal)
def eighth : EReal := ((1 / 8 : ℝ) : EReal)

theorem half_f32 : Ideal.ofBits .f32 0x3F000000#32 = half := by
  unfold half
  simp [Ideal.ofBits, Ideal.ieee, -EReal.coe_mul]; norm_num
theorem half_bf16 : Ideal.ofBits .bf16 0x3F00#16 = half := by
  unfold half
  simp [Ideal.ofBits, Ideal.ieee, -EReal.coe_mul]; norm_num
theorem eighth_f32 : Ideal.ofBits .f32 0x3E000000#32 = eighth := by
  unfold eighth
  simp [Ideal.ofBits, Ideal.ieee, -EReal.coe_mul]; norm_num
theorem eighth_bf16 : Ideal.ofBits .bf16 0x3E00#16 = eighth := by
  unfold eighth
  simp [Ideal.ofBits, Ideal.ieee, -EReal.coe_mul]; norm_num

theorem eighth_add (x y : EReal) : eighth * (x + y) = eighth * x + eighth * y :=
  EReal.left_distrib_of_nonneg_of_ne_top (by exact_mod_cast (by norm_num : (0 : ℝ) ≤ 1 / 8)) (EReal.coe_ne_top _) x y

/-- splat over an array. -/
theorem splat_half_f32 : (broadcast (Sh2 a b) (Scalar.ofBits .f32 0x3F000000#32 : Ideal .f32) : FVec Ideal (Sh2 a b) .f32) = fn2 fun _ _ => half :=
  funext fun _ => half_f32
theorem splat_half_bf16 : (broadcast (Sh2 a b) (Scalar.ofBits .bf16 0x3F00#16 : Ideal .bf16) : FVec Ideal (Sh2 a b) .bf16) = fn2 fun _ _ => half :=
  funext fun _ => half_bf16
theorem splat_eighth_f32 : (broadcast (Sh2 a b) (Scalar.ofBits .f32 0x3E000000#32 : Ideal .f32) : FVec Ideal (Sh2 a b) .f32) = fn2 fun _ _ => eighth :=
  funext fun _ => eighth_f32
theorem splat_eighth_bf16 : (broadcast (Sh2 a b) (Scalar.ofBits .bf16 0x3E00#16 : Ideal .bf16) : FVec Ideal (Sh2 a b) .bf16) = fn2 fun _ _ => eighth :=
  funext fun _ => eighth_bf16

end AtIdeal

/-- Half the element and an eighth of the sum of its four neighbours. -/
def sten (a : ℕ → ℕ → EReal) (r j : ℕ) : EReal :=
  half * a r j + eighth * (a (r - 1) j + a (r + 1) j + a r (j - 1) + a r (j + 1))

/-- The result: that, and at the array's border the element itself. -/
def spec (a : ℕ → ℕ → EReal) (r j : ℕ) : EReal :=
  if (0 < r ∧ r < 8191) ∧ (0 < j ∧ j < 8191) then sten a r j else a r j

end Cert.Stencil

end
-- ==== Proof.Chunk.lean ====
/-
# What a trip computes

The values of a trip at the extended reals, where the chunk, its halo rows and the received column are given by functions of two
naturals.
-/
module

public import proofs.«01_k».proof.Proof.Grid

@[expose] public section

noncomputable section

namespace Cert.Stencil

open Cert.KernelIdeal Cert.KernelIdeal.Gen
open Idealize.ShloMosaic Idealize.ShloMosaic.ValueIdx

variable (v t u w : ℕ → ℕ → EReal)

abbrev A2 (a b : ℕ) (f : ℕ → ℕ → EReal) : FVec Ideal (Sh2 a b) .f32 := fn2 f
abbrev A3 (a b : ℕ) (f : ℕ → ℕ → EReal) : FVec Ideal (Sh3 1 a b) .f32 := fn3 f

theorem blk3_A (a b : ℕ) : blk3 (F := Ideal) (A2 a b v) = A3 a b v := rfl

/-- Half of an element and an eighth of the sum of four. -/
def five (x n s e w : EReal) : EReal := half * x + eighth * (n + s + e + w)

/-- A chunk's elements by the rotations of the chunk; -/
def inner (i j : ℕ) : EReal :=
  half * v i j + eighth * ((v ((i + 512 - 1) % 512) j + v ((i + 512 - 511) % 512) j)
    + (v i ((j + 4096 - 1) % 4096) + v i ((j + 4096 - 4095) % 4096)))
/-- its first row from the row above and the received column's element, its last one from the row below; -/
def topRow (i j : ℕ) : EReal :=
  five (v (0 + i) (0 + j)) (t i j) (v (1 + i) (0 + j)) (if j < 1 then u i j else v (0 + i) (0 + (j - 1))) (if j < 4095 then v (0 + i) (1 + j) else w i (j - 4095))
def botRow (i j : ℕ) : EReal :=
  five (v (511 + i) (0 + j)) (v (510 + i) (0 + j)) (t i j) (if j < 1 then u i j else v (511 + i) (0 + (j - 1))) (if j < 4095 then v (511 + i) (1 + j) else w i (j - 4095))
/-- its first and last column from the rows above and below and the received column. -/
def leftCol (i j : ℕ) : EReal :=
  five (v (0 + i) (0 + j)) (if i < 1 then t (0 + i) (0 + j) else v (0 + (i - 1)) (0 + j)) (if i < 511 then v (1 + i) (0 + j) else u (0 + (i - 511)) (0 + j))
    (w i j) (v (0 + i) (1 + j))
def rightCol (i j : ℕ) : EReal :=
  five (v (0 + i) (4095 + j)) (if i < 1 then t (0 + i) (4095 + j) else v (0 + (i - 1)) (4095 + j)) (if i < 511 then v (1 + i) (4095 + j) else u (0 + (i - 511)) (4095 + j))
    (v (0 + i) (4094 + j)) (w i j)

theorem pay2_fn : k0_pay2 (F := Ideal) (A3 512 4096 v) = A2 512 4096 v := drop_fn3 _ _
theorem pay5_fn : k0_pay5 (F := Ideal) (A3 1 4096 v) = A2 1 4096 v := drop_fn3 _ _
theorem pay6_fn : k0_pay6 (F := Ideal) (A3 1 4096 v) = A2 1 4096 v := drop_fn3 _ _
theorem pay3_fn : k0_pay3 (F := Ideal) (A3 512 4096 v) = (fn2 v : FVec Ideal (Sh2 512 4096) .bf16) := by
  unfold k0_pay3
  rw [pay2_fn]
  rfl

theorem pay4_fn : k0_pay4 (F := Ideal) (fn2 v) 1#32
    = A3 512 4096 (inner v) := by
  unfold k0_pay4
  dsimp only
  rw [rot0_fn2 1#32 1 rfl, rot0_fn2 511#32 511 rfl, rot1_fn2 1#32 1 rfl, rot1_fn2 4095#32 4095 rfl, splat_half_bf16, splat_eighth_bf16]
  exact add_of rfl

theorem pay7_fn : k0_pay7 (F := Ideal) (A2 512 4096 v) (A3 1 4096 t) (A2 1 1 u) (A2 1 1 w)
    = A2 1 4096 (topRow v t u w) := by
  unfold k0_pay7
  dsimp only
  rw [pay5_fn, slice_fn2, slice_fn2, slice_fn2, slice_fn2, cat1_fn2 (p := 1) (q := 4095) (n := 4096) rfl, cat1_fn2 (p := 4095) (q := 1) (n := 4096) rfl, splat_half_f32, splat_eighth_f32]
  rfl

theorem pay8_fn : k0_pay8 (F := Ideal) (A2 1 4096 v) = A3 1 4096 v := add_fn2 _ _

theorem pay9_fn : k0_pay9 (F := Ideal) (A2 512 4096 v) (A2 1 4096 t) (A2 1 1 u) (A2 1 1 w)
    = A3 1 4096 (botRow v t u w) := by
  unfold k0_pay9
  dsimp only
  rw [slice_fn2, slice_fn2, slice_fn2, slice_fn2, cat1_fn2 (p := 1) (q := 4095) (n := 4096) rfl, cat1_fn2 (p := 4095) (q := 1) (n := 4096) rfl, splat_half_f32, splat_eighth_f32]
  exact add_of rfl

theorem pay10_fn : k0_pay10 (F := Ideal) (A2 512 4096 v) = A2 512 1 fun i j => half * v (0 + i) (0 + j) := by
  unfold k0_pay10
  dsimp only
  rw [slice_fn2, splat_half_f32]
  rfl

theorem pay11_fn : k0_pay11 (F := Ideal) (A2 512 4096 v) (A2 1 4096 t) (A2 1 4096 u) (A2 512 1 w)
    = A2 512 1 fun i j => (if i < 1 then t (0 + i) (0 + j) else v (0 + (i - 1)) (0 + j)) + (if i < 511 then v (1 + i) (0 + j) else u (0 + (i - 511)) (0 + j))
        + w i j + v (0 + i) (1 + j) := by
  unfold k0_pay11
  dsimp only
  rw [slice_fn2, slice_fn2, slice_fn2, slice_fn2, slice_fn2, cat0_fn2 (p := 1) (q := 511) (n := 512) rfl, cat0_fn2 (p := 511) (q := 1) (n := 512) rfl]
  rfl

theorem pay12_fn : k0_pay12 (F := Ideal) = A2 512 1 fun _ _ => eighth := splat_eighth_f32

theorem pay13_fn : k0_pay13 (F := Ideal) (A2 512 1 v) (A2 512 1 t) (A2 512 1 u) = A3 512 1 fun i j => v i j + u i j * t i j := by
  unfold k0_pay13
  dsimp only
  exact add_of rfl

theorem leftCol_fn : k0_pay13 (F := Ideal) (k0_pay10 (A2 512 4096 v)) (k0_pay11 (A2 512 4096 v) (A2 1 4096 t) (A2 1 4096 u) (A2 512 1 w)) k0_pay12
    = A3 512 1 (leftCol v t u w) := by
  rw [pay10_fn, pay11_fn, pay12_fn, pay13_fn]
  rfl

theorem pay14_fn : k0_pay14 (F := Ideal) (A2 512 4096 v) (A2 1 4096 t) (A2 1 4096 u) (A2 512 1 w)
    = A3 512 1 (rightCol v t u w) := by
  unfold k0_pay14
  dsimp only
  rw [slice_fn2, slice_fn2, slice_fn2, slice_fn2, slice_fn2, slice_fn2, cat0_fn2 (p := 1) (q := 511) (n := 512) rfl, cat0_fn2 (p := 511) (q := 1) (n := 512) rfl, splat_half_f32, splat_eighth_f32]
  exact add_of rfl

theorem pay15_fn : k0_pay15 (F := Ideal) (A2 512 4096 v) = A3 512 1 fun i j => v (0 + i) (0 + j) := by
  unfold k0_pay15
  dsimp only
  exact add_of rfl
theorem pay16_fn : k0_pay16 (F := Ideal) (A2 512 4096 v) = A3 512 1 fun i j => v (0 + i) (4095 + j) := by
  unfold k0_pay16
  dsimp only
  exact add_of rfl
theorem pay17_fn : k0_pay17 (F := Ideal) (A2 512 4096 v) = A3 1 4096 fun i j => v (0 + i) (0 + j) := by
  unfold k0_pay17
  dsimp only
  exact add_of rfl
theorem pay1_fn : k0_pay1 (F := Ideal) (A2 512 4096 v) = A3 1 4096 fun i j => v (511 + i) (0 + j) := by
  unfold k0_pay1
  dsimp only
  exact add_of rfl

end Cert.Stencil

end
-- ==== Proof.Value.lean ====
/-
# The kernel's value

Where the devices hold the blocks of one array, each device's result is its block of the stencil of that array: inside a chunk by
the rotations, at the chunk's border by the halo rows and the received column, at the array's border by what is put back.
-/
module

public import proofs.«01_k».proof.Proof.Chunk

@[expose] public section

noncomputable section

namespace Cert.Stencil

open Cert.KernelIdeal Cert.KernelIdeal.Gen
open Idealize.ShloMosaic Idealize.ShloMosaic.ValueIdx

theorem set_row (r : ℕ) (g f : ℕ → ℕ → EReal) : setBlk r 0 (A3 1 4096 g) (A2 512 4096 f) = A2 512 4096 fun i j => if i = r then g 0 j else f i j := by
  refine (setBlk_fn2 r 0 g f).trans (fn2_congr fun i j _ hj => ?_)
  by_cases h : i = r
  · rw [if_pos h, if_pos (by omega), h, Nat.sub_self, Nat.sub_zero]
  · rw [if_neg h, if_neg (by omega)]

theorem set_col (q : ℕ) (g f : ℕ → ℕ → EReal) : setBlk 0 q (A3 512 1 g) (A2 512 4096 f) = A2 512 4096 fun i j => if j = q then g i 0 else f i j := by
  refine (setBlk_fn2 0 q g f).trans (fn2_congr fun i j hi _ => ?_)
  by_cases h : j = q
  · rw [if_pos h, if_pos (by omega), h, Nat.sub_self, Nat.sub_zero]
  · rw [if_neg h, if_neg (by omega)]

theorem set_all (g f : ℕ → ℕ → EReal) : setBlk 0 0 (A3 512 4096 g) (A2 512 4096 f) = A2 512 4096 g := by
  refine (setBlk_fn2 0 0 g f).trans (fn2_congr fun i j hi hj => ?_)
  rw [if_pos (by omega), Nat.sub_zero, Nat.sub_zero]

variable (a : ℕ → ℕ → EReal) (X : Dev nD → Blk Ideal) (c : Dev nD) (k : ℕ)

/-- Each device holds its block of `a`. -/
def Holds : Prop := ∀ c : Dev nD, X c = fn2 fun i j => a (4096 * (c.val / 2) + i) (4096 * (c.val % 2) + j)

/-- The array's row of chunk `k`'s first row, and the array's column of the block's first column; -/
def rowAt : ℕ := 4096 * (c.val / 2) + 512 * k
def colAt : ℕ := 4096 * (c.val % 2)
/-- the rows from which the halo rows come; the column from which the received column comes. -/
def above : ℕ := if k = 0 then (if c.val / 2 = 0 then 4096 else 4095) else rowAt c k - 1
def below : ℕ := if k = 7 then (if c.val / 2 = 0 then 4096 else 4095) else rowAt c k + 512
def beside : ℕ := if c.val % 2 = 0 then 4096 else 4095

theorem mesh (c : Dev nD) : c.val / 2 < 2 ∧ c.val % 2 < 2 := by revert c; decide
theorem px_row (c : Dev nD) : (px c).val / 2 = 1 - c.val / 2 ∧ (px c).val % 2 = c.val % 2 := by revert c; decide
theorem py_col (c : Dev nD) : (py c).val / 2 = c.val / 2 ∧ (py c).val % 2 = 1 - c.val % 2 := by revert c; decide

theorem rowIdx_val (c : Dev nD) : (rowIdx c).val = if c.val / 2 = 0 then 4095 else 0 := by
  unfold rowIdx; split <;> rfl
theorem colIdx_val (c : Dev nD) : (colIdx c).val = if c.val % 2 = 0 then 4095 else 0 := by
  unfold colIdx; split <;> rfl

variable {a X}

theorem Holds.xRow_eq (h : Holds a X) (r : ℕ) (hr : r < 4096) (j : Fin 4096) :
    xRow X c r j = a (4096 * (c.val / 2) + r) (colAt c + j.val) := by
  unfold xRow
  rw [h c]
  show a (4096 * (c.val / 2) + r % 4096) (4096 * (c.val % 2) + j.val) = _
  rw [Nat.mod_eq_of_lt hr]
  rfl

theorem Holds.rowIn_eq (h : Holds a X) : rowIn X c = A2 1 4096 fun _ j => a (if c.val / 2 = 0 then 4096 else 4095) (colAt c + j) := by
  funext i
  show X (px c) (ix2 (rowIdx (px c)) (i 1)) = a _ (colAt c + (i 1).val)
  rw [h (px c)]
  show a (4096 * ((px c).val / 2) + (rowIdx (px c)).val) (4096 * ((px c).val % 2) + (i 1).val) = _
  have := mesh c
  rw [rowIdx_val, (px_row c).1, (px_row c).2]
  congr 1
  split_ifs <;> omega

theorem Holds.colIn_eq (h : Holds a X) : colIn X c = (fn2 fun i _ => a (4096 * (c.val / 2) + i) (beside c) : (Sh2 4096 1).Idx → EReal) := by
  funext i
  show X (py c) (ix2 (i 0) (colIdx (py c))) = a (4096 * (c.val / 2) + (i 0).val) _
  rw [h (py c)]
  show a (4096 * ((py c).val / 2) + (i 0).val) (4096 * ((py c).val % 2) + (colIdx (py c)).val) = _
  have := mesh c
  unfold beside
  rw [colIdx_val, (py_col c).1, (py_col c).2]
  congr 1
  split_ifs <;> omega

variable {k}

theorem Holds.xv_eq (h : Holds a X) (hk : k < 8) : xv X c k = A2 512 4096 fun i j => a (rowAt c k + i) (colAt c + j) := by
  funext i
  have hi : (i 0).val < 512 := (i 0).isLt
  refine (h.xRow_eq c (512 * k + (i 0).val) (by omega) (i 1)).trans ?_
  rw [← Nat.add_assoc]
  rfl

theorem Holds.xt_eq (h : Holds a X) (hk : k < 8) : xt X c k = A2 1 4096 fun _ j => a (above c k) (colAt c + j) := by
  unfold xt above
  by_cases h0 : k = 0
  · rw [if_pos h0, if_pos h0]
    exact h.rowIn_eq c
  · rw [if_neg h0, if_neg h0]
    funext i
    refine (h.xRow_eq c (512 * k - 1) (by omega) (i 1)).trans ?_
    rw [show 4096 * (c.val / 2) + (512 * k - 1) = rowAt c k - 1 by unfold rowAt; omega]
    rfl

theorem Holds.xb_eq (h : Holds a X) (hk : k < 8) : xb X c k = A2 1 4096 fun _ j => a (below c k) (colAt c + j) := by
  unfold xb below
  by_cases h0 : k = 7
  · rw [if_pos h0, if_pos h0]
    exact h.rowIn_eq c
  · rw [if_neg h0, if_neg h0]
    funext i
    refine (h.xRow_eq c (512 * (k + 1)) (by omega) (i 1)).trans ?_
    rw [show 4096 * (c.val / 2) + 512 * (k + 1) = rowAt c k + 512 by unfold rowAt; omega]
    rfl

theorem Holds.ldCol_eq (h : Holds a X) (m r : ℕ) (hr : 512 * k + r + m ≤ 4096) :
    ldCol (F := Ideal) m (512 * k + r) (colIn X c) = A2 m 1 fun i _ => a (rowAt c k + (r + i)) (beside c) := by
  funext i
  have hi : (i 0).val < m := (i 0).isLt
  unfold ldCol
  rw [h.colIn_eq c]
  show a (4096 * (c.val / 2) + (512 * k + r + (i 0).val) % 4096) _ = a _ _
  rw [Nat.mod_eq_of_lt (by omega), show 4096 * (c.val / 2) + (512 * k + r + (i 0).val) = rowAt c k + (r + (i 0).val) by unfold rowAt; omega]

/-! ## The output slot, store by store -/

variable (a k)

/-- The chunk, the rows above and below it, and the received column from the chunk's row `r` on. -/
def cV (i j : ℕ) : EReal := a (rowAt c k + i) (colAt c + j)
def cT (_ j : ℕ) : EReal := a (above c k) (colAt c + j)
def cB (_ j : ℕ) : EReal := a (below c k) (colAt c + j)
def cS (r i _ : ℕ) : EReal := a (rowAt c k + (r + i)) (beside c)

/-- The output slot's elements after each of the stores. -/
def fRows (i j : ℕ) : EReal :=
  if i = 511 then botRow (cV a c k) (cB a c k) (cS a c k 511) (cS a c k 511) 0 j
  else if i = 0 then topRow (cV a c k) (cT a c k) (cS a c k 0) (cS a c k 0) 0 j else inner (cV a c k) i j
def fCols (i j : ℕ) : EReal :=
  if j = 4095 then rightCol (cV a c k) (cT a c k) (cB a c k) (cS a c k 0) i 0
  else if j = 0 then leftCol (cV a c k) (cT a c k) (cB a c k) (cS a c k 0) i 0 else fRows a c k i j
def fEdgeL (i j : ℕ) : EReal := if c.val % 2 = 0 ∧ j = 0 then cV a c k (0 + i) (0 + 0) else fCols a c k i j
def fEdgeR (i j : ℕ) : EReal := if c.val % 2 = 1 ∧ j = 4095 then cV a c k (0 + i) (4095 + 0) else fEdgeL a c k i j
def fEdgeT (i j : ℕ) : EReal := if (c.val / 2 = 0 ∧ k = 0) ∧ i = 0 then cV a c k (0 + 0) (0 + j) else fEdgeR a c k i j
def fOut (i j : ℕ) : EReal := if (c.val / 2 = 1 ∧ k = 7) ∧ i = 511 then cV a c k (511 + 0) (0 + j) else fEdgeT a c k i j

variable {a k}

/-- A store made under a condition. -/
theorem if_fn (p : Prop) [Decidable p] (q : ℕ → ℕ → Prop) [∀ i j, Decidable (q i j)] (g f : ℕ → ℕ → EReal) :
    (if p then A2 512 4096 fun i j => if q i j then g i j else f i j else A2 512 4096 f)
      = A2 512 4096 fun i j => if p ∧ q i j then g i j else f i j := by
  by_cases hp : p
  · simp only [hp, ↓reduceIte, true_and]
  · simp only [hp, ↓reduceIte, false_and]

section Slot

variable (h : Holds a X) (hk : k < 8)
include h hk

theorem vC_fn : vC X c k = A2 512 4096 (cV a c k) := by
  unfold vC
  rw [h.xv_eq c hk, blk3_A]
  exact pay2_fn _
theorem vT_fn : vT X c k = A2 1 4096 (cT a c k) := by
  unfold vT
  rw [h.xt_eq c hk, blk3_A]
  exact pay5_fn _
theorem vB_fn : vB X c k = A2 1 4096 (cB a c k) := by
  unfold vB
  rw [h.xb_eq c hk, blk3_A]
  exact pay6_fn _

theorem oIn_fn : oIn X c k = A2 512 4096 (inner (cV a c k)) := by
  unfold oIn
  rw [h.xv_eq c hk, blk3_A, pay3_fn, pay4_fn]
  exact set_all _ _

theorem vTop_fn : vTop X c k = A2 1 4096 (topRow (cV a c k) (cT a c k) (cS a c k 0) (cS a c k 0)) := by
  unfold vTop
  rw [vC_fn c h hk, h.xt_eq c hk, blk3_A, show ldCol (F := Ideal) 1 (512 * k) (colIn X c) = _ from h.ldCol_eq c 1 0 (by omega)]
  exact pay7_fn _ _ _ _

theorem oRows_fn : oRows X c k = A2 512 4096 (fRows a c k) := by
  unfold oRows
  rw [vTop_fn c h hk, oIn_fn c h hk, vC_fn c h hk, vB_fn c h hk, h.ldCol_eq c 1 511 (by omega), pay8_fn, set_row]
  refine (congrArg (fun w => setBlk 511 0 w _) (pay9_fn (cV a c k) (cB a c k) (cS a c k 511) (cS a c k 511))).trans ?_
  exact set_row _ _ _

theorem oCols_fn : oCols X c k = A2 512 4096 (fCols a c k) := by
  unfold oCols
  rw [oRows_fn c h hk, vC_fn c h hk, vT_fn c h hk, vB_fn c h hk, show ldCol (F := Ideal) 512 (512 * k) (colIn X c) = A2 512 1 (cS a c k 0) from h.ldCol_eq c 512 0 (by omega),
    leftCol_fn, pay14_fn, set_col]
  exact set_col _ _ _

theorem oEdgeL_fn : oEdgeL X c k = A2 512 4096 (fEdgeL a c k) := by
  unfold oEdgeL
  rw [oCols_fn c h hk, vC_fn c h hk, pay15_fn, set_col]
  exact if_fn _ _ _ _
theorem oEdgeR_fn : oEdgeR X c k = A2 512 4096 (fEdgeR a c k) := by
  unfold oEdgeR
  rw [oEdgeL_fn c h hk, vC_fn c h hk, pay16_fn, set_col]
  exact if_fn _ _ _ _
theorem oEdgeT_fn : oEdgeT X c k = A2 512 4096 (fEdgeT a c k) := by
  unfold oEdgeT
  rw [oEdgeR_fn c h hk, vC_fn c h hk, pay17_fn, set_row]
  exact if_fn _ _ _ _
theorem outV_fn : outV X c k = A2 512 4096 (fOut a c k) := by
  unfold outV
  rw [oEdgeT_fn c h hk, vC_fn c h hk, pay1_fn, set_row]
  exact if_fn _ _ _ _

end Slot

/-! ## The stencil -/

section Sten

variable (a k)

theorem inner_sten (i j : ℕ) (hi : 0 < i ∧ i < 511) (hj : 0 < j ∧ j < 4095) : inner (cV a c k) i j = sten a (rowAt c k + i) (colAt c + j) := by
  unfold inner sten cV
  rw [show (i + 512 - 1) % 512 = i - 1 by omega, show (i + 512 - 511) % 512 = i + 1 by omega, show (j + 4096 - 1) % 4096 = j - 1 by omega,
    show (j + 4096 - 4095) % 4096 = j + 1 by omega, ← Nat.add_sub_assoc hi.1, ← Nat.add_sub_assoc hj.1, ← add_assoc (a _ _ + a _ _)]
  rfl

/-- A value is the stencil's where its five elements are the array's. -/
theorem five_sten {r j r0 r1 r2 r3 r4 j0 j1 j2 j3 j4 : ℕ} (h0 : r0 = r ∧ j0 = j) (h1 : r1 = r - 1 ∧ j1 = j) (h2 : r2 = r + 1 ∧ j2 = j)
    (h3 : r3 = r ∧ j3 = j - 1) (h4 : r4 = r ∧ j4 = j + 1) : five (a r0 j0) (a r1 j1) (a r2 j2) (a r3 j3) (a r4 j4) = sten a r j := by
  obtain ⟨rfl, rfl⟩ := h0
  obtain ⟨rfl, rfl⟩ := h1
  obtain ⟨rfl, rfl⟩ := h2
  obtain ⟨rfl, rfl⟩ := h3
  obtain ⟨rfl, rfl⟩ := h4
  rfl

theorem above_eq (hr : 0 < rowAt c k) : above c k = rowAt c k - 1 := by
  have := mesh c
  unfold above rowAt at *
  split_ifs <;> omega
theorem below_eq (hk : k < 8) (hr : rowAt c k + 511 < 8191) : below c k = rowAt c k + 512 := by
  have := mesh c
  unfold below rowAt at *
  split_ifs <;> omega

theorem topRow_sten (j : ℕ) (hr : 0 < rowAt c k) (hj : 0 < j ∧ j < 4095) :
    topRow (cV a c k) (cT a c k) (cS a c k 0) (cS a c k 0) 0 j = sten a (rowAt c k) (colAt c + j) := by
  unfold topRow cV cT
  rw [if_neg (by omega), if_pos hj.2, above_eq c k hr]
  exact five_sten a (by omega) (by omega) (by omega) (by omega) (by omega)

theorem botRow_sten (j : ℕ) (hk : k < 8) (hr : rowAt c k + 511 < 8191) (hj : 0 < j ∧ j < 4095) :
    botRow (cV a c k) (cB a c k) (cS a c k 511) (cS a c k 511) 0 j = sten a (rowAt c k + 511) (colAt c + j) := by
  unfold botRow cV cB
  rw [if_neg (by omega), if_pos hj.2, below_eq c k hk hr]
  exact five_sten a (by omega) (by omega) (by omega) (by omega) (by omega)

theorem above_cell (i j : ℕ) (hr : 0 < rowAt c k + i) : (if i < 1 then cT a c k (0 + i) j else cV a c k (0 + (i - 1)) j) = a (rowAt c k + i - 1) (colAt c + j) := by
  unfold cT cV
  split
  · next hi =>
    obtain rfl : i = 0 := by omega
    rw [above_eq c k hr]
    rfl
  · next hi => rw [show rowAt c k + (0 + (i - 1)) = rowAt c k + i - 1 by omega]
theorem below_cell (i j : ℕ) (hk : k < 8) (hi : i < 512) (hr : rowAt c k + i < 8191) :
    (if i < 511 then cV a c k (1 + i) j else cB a c k (0 + (i - 511)) j) = a (rowAt c k + i + 1) (colAt c + j) := by
  unfold cB cV
  split
  · rw [show rowAt c k + (1 + i) = rowAt c k + i + 1 by omega]
  · next hi' =>
    obtain rfl : i = 511 := by omega
    rw [below_eq c k hk hr]

theorem leftCol_sten (i : ℕ) (hk : k < 8) (hi : i < 512) (hr : 0 < rowAt c k + i ∧ rowAt c k + i < 8191) (hc : c.val % 2 = 1) :
    leftCol (cV a c k) (cT a c k) (cB a c k) (cS a c k 0) i 0 = sten a (rowAt c k + i) (colAt c) := by
  unfold leftCol
  rw [above_cell a c k i _ hr.1, below_cell a c k i _ hk hi hr.2]
  unfold cV cS beside colAt
  rw [if_neg (by omega)]
  exact five_sten a (by omega) (by omega) (by omega) (by omega) (by omega)

theorem rightCol_sten (i : ℕ) (hk : k < 8) (hi : i < 512) (hr : 0 < rowAt c k + i ∧ rowAt c k + i < 8191) (hc : c.val % 2 = 0) :
    rightCol (cV a c k) (cT a c k) (cB a c k) (cS a c k 0) i 0 = sten a (rowAt c k + i) (colAt c + 4095) := by
  unfold rightCol
  rw [above_cell a c k i _ hr.1, below_cell a c k i _ hk hi hr.2]
  unfold cV cS beside colAt
  rw [if_pos hc]
  exact five_sten a (by omega) (by omega) (by omega) (by omega) (by omega)

/-- A chunk's elements as stored are the stencil's. -/
theorem fOut_spec (i j : ℕ) (hk : k < 8) (hi : i < 512) (hj : j < 4096) : fOut a c k i j = spec a (rowAt c k + i) (colAt c + j) := by
  have hm := mesh c
  have hR : rowAt c k = 4096 * (c.val / 2) + 512 * k := rfl
  have hJ : colAt c = 4096 * (c.val % 2) := rfl
  unfold spec
  by_cases hb : (0 < rowAt c k + i ∧ rowAt c k + i < 8191) ∧ (0 < colAt c + j ∧ colAt c + j < 8191)
  · rw [if_pos hb]
    unfold fOut fEdgeT fEdgeR fEdgeL
    rw [if_neg (by omega), if_neg (by omega), if_neg (by omega), if_neg (by omega)]
    unfold fCols
    by_cases h1 : j = 4095
    · rw [if_pos h1, h1]
      exact rightCol_sten a c k i hk hi hb.1 (by omega)
    by_cases h2 : j = 0
    · rw [if_neg h1, if_pos h2, h2]
      exact leftCol_sten a c k i hk hi hb.1 (by omega)
    rw [if_neg h1, if_neg h2]
    unfold fRows
    by_cases h3 : i = 511
    · subst h3
      rw [if_pos rfl]
      exact botRow_sten a c k j hk hb.1.2 (by omega)
    by_cases h4 : i = 0
    · subst h4
      rw [if_neg h3, if_pos rfl]
      exact topRow_sten a c k j hb.1.1 (by omega)
    rw [if_neg h3, if_neg h4]
    exact inner_sten a c k i j (by omega) (by omega)
  · rw [if_neg hb]
    unfold fOut
    by_cases h1 : (c.val / 2 = 1 ∧ k = 7) ∧ i = 511
    · rw [if_pos h1, h1.2]
      unfold cV
      rw [Nat.zero_add]
    rw [if_neg h1]
    unfold fEdgeT
    by_cases h2 : (c.val / 2 = 0 ∧ k = 0) ∧ i = 0
    · rw [if_pos h2, h2.2]
      unfold cV
      rw [Nat.zero_add j]
    rw [if_neg h2]
    unfold fEdgeR
    by_cases h3 : c.val % 2 = 1 ∧ j = 4095
    · rw [if_pos h3, h3.2]
      unfold cV
      rw [Nat.zero_add]
    rw [if_neg h3]
    unfold fEdgeL
    rw [if_pos (by omega), show j = 0 by omega]
    unfold cV
    rw [Nat.zero_add]

end Sten

/-- The kernel's result: on each device its block of the stencil of the whole array. -/
theorem G_spec (h : Holds a X) : G X c = fn2 fun i j => spec a (4096 * (c.val / 2) + i) (4096 * (c.val % 2) + j) := by
  funext i
  have hi : (i 0).val < 4096 := (i 0).isLt
  unfold G
  rw [outV_fn c h (k := (i 0).val / 512) (by omega)]
  show fOut a c ((i 0).val / 512) ((i 0).val % 512) (i 1).val = spec a (4096 * (c.val / 2) + (i 0).val) (4096 * (c.val % 2) + (i 1).val)
  rw [fOut_spec a c _ _ _ (by omega) (by omega) (i 1).isLt]
  unfold rowAt colAt
  rw [show 4096 * (c.val / 2) + 512 * ((i 0).val / 512) + (i 0).val % 512 = 4096 * (c.val / 2) + (i 0).val by omega]

end Cert.Stencil

end
-- ==== Proof.Reference.lean ====
/-
# The reference's result

The reference scatters one window of 8190 × 8190 values into the array at row 1 and column 1, so that its result is the
stencil in the array's interior and the array on its border.
-/
module

public import proofs.«01_k».proof.Proof.Grid
public import proofs.«01_k».proof.Proof.Gen.ReferenceIdeal.Run
public import Idealize.ShloMosaic.Lib.Routing.OpsSet
public import Idealize.ShloMosaic.Lib.Pointwise.SelectCore

@[expose] public section

noncomputable section

namespace Cert.Stencil.Ref

open Idealize.ShloMosaic Cert.ReferenceIdeal Cert.ReferenceIdeal.Gen

/-- Where the window lies: at row 1 and column 1. -/
abbrev corner : IVec S2 32 :=
  concatenate S2 0 [⟨S1, (broadcastInDim S1 ![] bcast_S_S1 (constantI S_ 32 1#32))⟩, ⟨S1, (broadcastInDim S1 ![] bcast_S_S1 (constantI S_ 32 1#32))⟩] concatenates_S1_S1_S2_d0

/-- The window's values. -/
abbrev window (x : FVec Ideal S8192x8192 .f32) : FVec Ideal S8190x8190 .f32 :=
  addf (addf (addf (addf (mulf (broadcastInDim S8190x8190 ![] bcast_S_S8190x8190 (constant S_ .f32 0x3F000000#32)) (extractStridedSlice S8190x8190 ![1, 1] x slices_S8192x8192_S8190x8190_1_1)) (mulf (broadcastInDim S8190x8190 ![] bcast_S_S8190x8190 (constant S_ .f32 0x3E000000#32)) (extractStridedSlice S8190x8190 ![0, 1] x slices_S8192x8192_S8190x8190_0_1))) (mulf (broadcastInDim S8190x8190 ![] bcast_S_S8190x8190 (constant S_ .f32 0x3E000000#32)) (extractStridedSlice S8190x8190 ![2, 1] x slices_S8192x8192_S8190x8190_2_1))) (mulf (broadcastInDim S8190x8190 ![] bcast_S_S8190x8190 (constant S_ .f32 0x3E000000#32)) (extractStridedSlice S8190x8190 ![1, 0] x slices_S8192x8192_S8190x8190_1_0))) (mulf (broadcastInDim S8190x8190 ![] bcast_S_S8190x8190 (constant S_ .f32 0x3E000000#32)) (extractStridedSlice S8190x8190 ![1, 2] x slices_S8192x8192_S8190x8190_1_2))

/-- The reference's result, of its argument. -/
abbrev result (x : FVec Ideal S8192x8192 .f32) : FVec Ideal S8192x8192 .f32 :=
  Host.scatter scatter_S8192x8192_S2_S8190x8190_01_n_01_0 (fun _ b => b) x corner (window x)

theorem corner_apply (j : S2.Idx) : corner j = 1#32 :=
  concatenate_forall (P := fun w => w = 1#32) S2 0
    [⟨S1, (broadcastInDim S1 ![] bcast_S_S1 (constantI S_ 32 1#32))⟩, ⟨S1, (broadcastInDim S1 ![] bcast_S_S1 (constantI S_ 32 1#32))⟩]
    concatenates_S1_S1_S2_d0 (fun p hp i => by rcases List.mem_pair.1 hp with rfl | rfl <;> rfl) j

/-- An element of the window is the stencil's there. -/
theorem window_fn (a : ℕ → ℕ → EReal) : window (fn2 a : (Sh2 8192 8192).Idx → EReal) = (fn2 fun i j => sten a (i + 1) (j + 1) : (Sh2 8190 8190).Idx → EReal) := by
  funext i
  show Ideal.ofBits .f32 0x3F000000#32 * a (1 + (i 0).val) (1 + (i 1).val) + Ideal.ofBits .f32 0x3E000000#32 * a (0 + (i 0).val) (1 + (i 1).val)
      + Ideal.ofBits .f32 0x3E000000#32 * a (2 + (i 0).val) (1 + (i 1).val) + Ideal.ofBits .f32 0x3E000000#32 * a (1 + (i 0).val) (0 + (i 1).val)
      + Ideal.ofBits .f32 0x3E000000#32 * a (1 + (i 0).val) (2 + (i 1).val) = sten a ((i 0).val + 1) ((i 1).val + 1)
  generalize (i 0).val = r
  generalize (i 1).val = j
  unfold sten
  rw [half_f32, eighth_f32, eighth_add, eighth_add, eighth_add, ← add_assoc, ← add_assoc, ← add_assoc, Nat.add_comm 1 r, Nat.add_comm 1 j,
    Nat.zero_add, Nat.zero_add, Nat.add_comm 2 r, Nat.add_comm 2 j, Nat.add_sub_cancel, Nat.add_sub_cancel]

/-- Which element an element of the window lands at. -/
theorem lands (k : S8190x8190.Idx) (r c : Fin 8192) :
    scatter_S8192x8192_S2_S8190x8190_01_n_01_0.resultIdx? k corner = some (ValueIdx.ix2 r c) ↔ (k 0).val + 1 = r.val ∧ (k 1).val + 1 = c.val := by
  refine (Routing.resultIdx?_ix2 (R := 8192) (C := 8192) scatter_S8192x8192_S2_S8190x8190_01_n_01_0 k corner r c).trans ?_
  have hs : ∀ q : Fin 2, scatter_S8192x8192_S2_S8190x8190_01_n_01_0.start k corner q = 1 := fun q => by
    unfold ScatterDims.start
    rw [dif_pos (by fin_cases q <;> decide), corner_apply]
    rfl
  have hw0 : scatter_S8192x8192_S2_S8190x8190_01_n_01_0.window k 0 = (k 0).val := rfl
  have hw1 : scatter_S8192x8192_S2_S8190x8190_01_n_01_0.window k 1 = (k 1).val := rfl
  rw [hw0, hw1]
  erw [hs]
  omega

/-- The reference's result is the stencil of its argument. -/
theorem result_fn (a : ℕ → ℕ → EReal) : result (fn2 a : (Sh2 8192 8192).Idx → EReal) = (fn2 (spec a) : (Sh2 8192 8192).Idx → EReal) := by
  funext i
  obtain ⟨r, c, rfl⟩ : ∃ r c : Fin 8192, i = ValueIdx.ix2 r c := ⟨i 0, i 1, funext fun x => match x with | ⟨0, _⟩ => rfl | ⟨1, _⟩ => rfl⟩
  show result (fn2 a : (Sh2 8192 8192).Idx → EReal) (ValueIdx.ix2 r c) = spec a r.val c.val
  unfold spec
  by_cases hb : (0 < r.val ∧ r.val < 8191) ∧ (0 < c.val ∧ c.val < 8191)
  · rw [if_pos hb]
    refine Routing.scatter_set_hit _ _ corner _ _ _ (fun k hk => ?_) (ValueIdx.ix2 (⟨r.val - 1, by omega⟩ : Fin 8190) (⟨c.val - 1, by omega⟩ : Fin 8190)) ((lands _ r c).2 ?_)
    · have := (lands k r c).1 hk
      rw [window_fn, ← this.1, ← this.2]
      rfl
    · show r.val - 1 + 1 = r.val ∧ c.val - 1 + 1 = c.val
      omega
  · rw [if_neg hb]
    refine Routing.scatter_set_miss _ _ corner _ _ fun k hk => hb ?_
    have := (lands k r c).1 hk
    have h0 : (k 0).val < 8190 := (k 0).isLt
    have h1 : (k 1).val < 8190 := (k 1).isLt
    omega

end Cert.Stencil.Ref

end
-- ==== Proof.Algebraic.lean ====
/-
# The kernel's result is the reference's

Over the extended reals each device's result is its block of the stencil of the whole array, and so is the reference's
result as a whole.
-/
module

public import proofs.«01_k».proof.Defs
public import proofs.«01_k».proof.Proof.Gen.KernelIdeal
public import proofs.«01_k».proof.Proof.Run
public import proofs.«01_k».proof.Proof.Value
public import proofs.«01_k».proof.Proof.Reference

@[expose] public section

noncomputable section

namespace Cert.Stencil

open Idealize.ShloMosaic Idealize.SL.Sem Idealize.ShloMosaic.TcCoe

/-- An array of the whole extent, as a function of two naturals. -/
def whole (x : (Sh2 8192 8192).Idx → EReal) (r j : ℕ) : EReal :=
  x (ValueIdx.ix2 (⟨r % 8192, Nat.mod_lt _ (by decide)⟩ : Fin 8192) (⟨j % 8192, Nat.mod_lt _ (by decide)⟩ : Fin 8192))

theorem whole_fn (x : (Sh2 8192 8192).Idx → EReal) : x = fn2 (whole x) := by
  funext i
  have h0 : (i 0).val < 8192 := (i 0).isLt
  have h1 : (i 1).val < 8192 := (i 1).isLt
  refine congrArg x (funext fun b => ?_)
  match b with
  | ⟨0, _⟩ => exact Fin.ext (Nat.mod_eq_of_lt h0).symm
  | ⟨1, _⟩ => exact Fin.ext (Nat.mod_eq_of_lt h1).symm

/-- The device's two coordinates. -/
theorem block0_val (c : Dev Cert.KernelIdeal.nD) : ((Layout.meshBlock [2, 2] (![[0], [1]] : Fin 2 → List ℕ) c : (b : Fin 2) → _) 0).val = c.val / 2 := by
  revert c
  decide
theorem block1_val (c : Dev Cert.KernelIdeal.nD) : ((Layout.meshBlock [2, 2] (![[0], [1]] : Fin 2 → List ℕ) c : (b : Fin 2) → _) 1).val = c.val % 2 := by
  revert c
  decide

/-- Where a block's element is in the whole array. -/
theorem idx0 {p q p' q' : ℕ} {n : Fin 2 → ℕ} (ht : Layout.TilesN ⟨2, ![p, q]⟩ ⟨2, ![p', q']⟩ n) (b : (d : Fin 2) → Fin (n d)) (i : (Sh2 p q).Idx) :
    (ht.idx b i 0).val = (b 0).val * p + (i 0).val := rfl
theorem idx1 {p q p' q' : ℕ} {n : Fin 2 → ℕ} (ht : Layout.TilesN ⟨2, ![p, q]⟩ ⟨2, ![p', q']⟩ n) (b : (d : Fin 2) → Fin (n d)) (i : (Sh2 p q).Idx) :
    (ht.idx b i 1).val = (b 1).val * q + (i 1).val := rfl

/-- A device's block of an array given by a function. -/
theorem blockN_fn (a : ℕ → ℕ → EReal) (c : Dev Cert.KernelIdeal.nD)
    (ht : Layout.TilesN ⟨2, ![4096, 4096]⟩ ⟨2, ![8192, 8192]⟩ fun d : Fin 2 => Layout.cutSize [2, 2] ((![[0], [1]] : Fin 2 → List ℕ) d)) :
    Layout.blockN ⟨2, ![4096, 4096]⟩ ⟨2, ![8192, 8192]⟩ (Layout.meshBlock [2, 2] ![[0], [1]] c) (fn2 a : (Sh2 8192 8192).Idx → EReal) ht
      = (fn2 fun i j => a (4096 * (c.val / 2) + i) (4096 * (c.val % 2) + j) : (Sh2 4096 4096).Idx → EReal) := by
  funext i
  show a (ht.idx (Layout.meshBlock [2, 2] ![[0], [1]] c) i 0).val (ht.idx (Layout.meshBlock [2, 2] ![[0], [1]] c) i 1).val = _
  have e0 : (ht.idx (Layout.meshBlock [2, 2] ![[0], [1]] c) i 0).val = 4096 * (c.val / 2) + (i 0).val := by
    exact (idx0 ht _ i).trans (congrArg (· + (i 0).val) ((congrArg (· * 4096) (block0_val c)).trans (Nat.mul_comm _ _)))
  have e1 : (ht.idx (Layout.meshBlock [2, 2] ![[0], [1]] c) i 1).val = 4096 * (c.val % 2) + (i 1).val := by
    exact (idx1 ht _ i).trans (congrArg (· + (i 1).val) ((congrArg (· * 4096) (block1_val c)).trans (Nat.mul_comm _ _)))
  rw [e0, e1]
  rfl

/-- The kernel computes the reference's function over the extended reals. -/
theorem algebraic : Cert.algebraic_KernelIdeal_ReferenceIdeal := by
  intro m g m' g' _ hm
  have hx := whole_fn (m' (((0 : Dev Cert.ReferenceIdeal.nD).tc : Thread Cert.ReferenceIdeal.nD Cert.ReferenceIdeal.τ).loc Cert.ReferenceIdeal.main_arg0))
  have hH : Holds (whole (m' (((0 : Dev Cert.ReferenceIdeal.nD).tc : Thread Cert.ReferenceIdeal.nD Cert.ReferenceIdeal.τ).loc Cert.ReferenceIdeal.main_arg0))) (xAt m) :=
    fun c => (hm c).trans ((congrArg (fun v => Layout.blockN ⟨2, ![4096, 4096]⟩ ⟨2, ![8192, 8192]⟩ (Layout.meshBlock [2, 2] ![[0], [1]] c) v) hx).trans (blockN_fn _ c _))
  refine ⟨Ref.result (m' (((0 : Dev Cert.ReferenceIdeal.nD).tc : Thread Cert.ReferenceIdeal.nD Cert.ReferenceIdeal.τ).loc Cert.ReferenceIdeal.main_arg0)), ?_, ?_⟩
  · refine (θ_run (Cert.KernelIdeal.defs (F := Ideal)) _ _).mono (fun r h c => ⟨?_, (h.1 c).1⟩) (run_main (F := Ideal) m g)
    rw [(h.1 c).2, G_spec c hH]
    refine ((congrArg (fun v => Layout.blockN ⟨2, ![4096, 4096]⟩ ⟨2, ![8192, 8192]⟩ (Layout.meshBlock [2, 2] ![[0], [1]] c) v)
      ((congrArg Ref.result hx).trans (Ref.result_fn _))).trans (blockN_fn _ c _)).symm
  · exact (θ_run (Cert.ReferenceIdeal.defs (F := Ideal)) _ _).mono (fun r h => h 0) (Cert.ReferenceIdeal.Value.run (F := Ideal) m' g')

end Cert.Stencil

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Algebraic

@[expose] public section

/-! # The certificate's claim -/

noncomputable section

namespace Cert.Proof

theorem claim : Cert.Claim :=
  ⟨Cert.Kernel.Gen.facts, Cert.KernelIdeal.Gen.facts, Cert.ReferenceIdeal.Gen.facts,
    Cert.Stencil.frame_kernel, Cert.Stencil.frame_kernelIdeal, Cert.Stencil.frame_referenceIdeal, trivial,
    Cert.Stencil.algebraic⟩

end Cert.Proof

end
